-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_top [hPre_clear_top : Cert.Pre_clear_top.Facts] (m : (ℓ : Loc Cert.KernelIdeal.nD Cert.KernelIdeal.τ Cert.KernelIdeal.sig) → Buf (Elt Ideal) ℓ) : Prop :=
  ∀ c : Dev Cert.KernelIdeal.nD,
    (Cert.Pre_clear_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_top [hPre_clear_top : Cert.Pre_clear_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_clear_top [hKernelIdeal : Cert.KernelIdeal.Facts] [hPre_clear_top : Cert.Pre_clear_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_clear_top [hReferenceIdeal : Cert.ReferenceIdeal.Facts] [hPre_clear_top : Cert.Pre_clear_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_clear_top [hKernelIdeal : Cert.KernelIdeal.Facts] [hReferenceIdeal : Cert.ReferenceIdeal.Facts] [hPre_clear_top : Cert.Pre_clear_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_clear_top : Cert.Pre_clear_top.Facts),
    quiescent_Kernel (hKernel := hKernel)
    ∧ quiescent_KernelIdeal (hKernelIdeal := hKernelIdeal)
    ∧ quiescent_KernelIdeal_pre_clear_top (hKernelIdeal := hKernelIdeal) (hPre_clear_top := hPre_clear_top)
    ∧ quiescent_ReferenceIdeal (hReferenceIdeal := hReferenceIdeal)
    ∧ quiescent_ReferenceIdeal_pre_clear_top (hReferenceIdeal := hReferenceIdeal) (hPre_clear_top := hPre_clear_top)
    ∧ preserves_Kernel_KernelIdeal
    ∧ algebraic_KernelIdeal_ReferenceIdeal_pre_clear_top (hKernelIdeal := hKernelIdeal) (hReferenceIdeal := hReferenceIdeal) (hPre_clear_top := hPre_clear_top)
-- ==== Pre_clear_top.lean ====
abbrev S1x2048x1024 : Shape := ⟨3, ![1, 2048, 1024]⟩
abbrev S1024x1024 : Shape := ⟨2, ![1024, 1024]⟩
abbrev S128x1024x64 : Shape := ⟨3, ![128, 1024, 64]⟩
abbrev S128x64x1024 : Shape := ⟨3, ![128, 64, 1024]⟩
abbrev S128x1024 : Shape := ⟨2, ![128, 1024]⟩
abbrev S_ : Shape := ⟨0, ![]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S1x16x2048 : Shape := ⟨3, ![1, 16, 2048]⟩
abbrev S1x2048x128 : Shape := ⟨3, ![1, 2048, 128]⟩
abbrev S1x2048x16x8 : Shape := ⟨4, ![1, 2048, 16, 8]⟩
abbrev S1x2048x16x3 : Shape := ⟨4, ![1, 2048, 16, 3]⟩
abbrev S1x2048x16x1 : Shape := ⟨4, ![1, 2048, 16, 1]⟩
abbrev S1x2048x16 : Shape := ⟨3, ![1, 2048, 16]⟩

class Facts : Prop where
  transposes_S1024x1024_S1024x1024_1_0 : S1024x1024.Transposes [1, 0] S1024x1024
  bcast_S_S1x2048x1024 : S_.BroadcastsInDim S1x2048x1024 (![] : Fin 0 → Fin S1x2048x1024.rank)
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  reducesTo_S1x16x2048x2048_S1x16x2048_d3 : S1x16x2048x2048.ReducesTo [3] S1x16x2048
  h_S_ : 0 < S_.numel
  bcast_S_S1x16x2048 : S_.BroadcastsInDim S1x16x2048 (![] : Fin 0 → Fin S1x16x2048.rank)
  shapeCasts_S1x2048x128_S1x2048x16x8 : S1x2048x128.ShapeCasts S1x2048x16x8
  bcast_S_S1x2048x16x8 : S_.BroadcastsInDim S1x2048x16x8 (![] : Fin 0 → Fin S1x2048x16x8.rank)
  sliceFits_S1x2048x16x8_S1x2048x16x3 : S1x2048x16x8.Slices (fun _ => 0) S1x2048x16x3
  slices_S1x2048x16x3_S1x2048x16x1_0_0_0_1 : S1x2048x16x3.Slices ![0, 0, 0, 1] S1x2048x16x1
  slices_S1x2048x16x3_S1x2048x16x1_0_0_0_2 : S1x2048x16x3.Slices ![0, 0, 0, 2] S1x2048x16x1
  transposes_S1x16x2048_S1x2048x16_0_2_1 : S1x16x2048.Transposes [0, 2, 1] S1x2048x16
  shapeCasts_S1x2048x16_S1x2048x16x1 : S1x2048x16.ShapeCasts S1x2048x16x1
  dot_S1x2048x1024_S1024x1024_S1x2048x1024_2_0_01_1_n_n_wf : DotDims.WF S1x2048x1024 S1024x1024 S1x2048x1024 [2] [0] [0, 1] [1] [] []
  dot_S1x16x2048x64_S1x16x2048x64_S1x16x2048x2048_3_3_2_2_01_01_wf : DotDims.WF S1x16x2048x64 S1x16x2048x64 S1x16x2048x2048 [3] [3] [2] [2] [0, 1] [0, 1]
  dot_S1x2048x1024_S128x1024_S1x2048x128_2_1_01_0_n_n_wf : DotDims.WF S1x2048x1024 S128x1024 S1x2048x128 [2] [1] [0, 1] [0] [] []

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x2048x1024_S128x1024_S1x2048x128_2_1_01_0_n_n : DotDims S1x2048x1024 S128x1024 S1x2048x128 where
  lhsContracting := [2]
  rhsContracting := [1]
  lhsNonContracting := [0, 1]
  rhsNonContracting := [0]
  lhsBatch := []
  rhsBatch := []
  wf := dot_S1x2048x1024_S128x1024_S1x2048x128_2_1_01_0_n_n_wf
def fn_part2 {F : FTy → Type} [FloatOps F] (main_v18 : IVec S1x16x2048 1) (main_v29 : IVec S1x2048x16x1 1) (main_v35 : FVec F S1x2048x16x8 .f32) (main_v36 : FVec F S1x2048x16x8 .f32) : IVec S1x2048x16x1 1 :=
  let main_v37 : FVec F S1x2048x16x8 .f32 := Host.divf main_v36 main_v35
  let main_values_8 : FVec F S1x2048x16x3 .f32 := (fun x => (Host.topK S1x2048x16x3 3 (FloatOps.cmpfTotal .gt) x sliceFits_S1x2048x16x8_S1x2048x16x3).1) main_v37
  let main_indices_9 : IVec S1x2048x16x3 32 := (fun x => (Host.topK S1x2048x16x3 3 (FloatOps.cmpfTotal .gt) x sliceFits_S1x2048x16x8_S1x2048x16x3).2) main_v37
  let main_v38 : FVec F S1x2048x16x1 .f32 := (extractStridedSlice S1x2048x16x1 ![0, 0, 0, 1] · slices_S1x2048x16x3_S1x2048x16x1_0_0_0_1) main_values_8
  let main_v39 : FVec F S1x2048x16x1 .f32 := (extractStridedSlice S1x2048x16x1 ![0, 0, 0, 2] · slices_S1x2048x16x3_S1x2048x16x1_0_0_0_2) main_values_8
  let main_v40 : IVec S1x2048x16x1 1 := cmpf .ogt main_v38 main_v39
  let main_v41 : IVec S1x2048x16x1 1 := andi main_v29 main_v40
  let main_v42 : IVec S1x2048x16 1 := (transpose S1x2048x16 [0, 2, 1] · transposes_S1x16x2048_S1x2048x16_0_2_1) main_v18
  let main_v43 : IVec S1x2048x16x1 1 := shapeCast S1x2048x16x1 main_v42 shapeCasts_S1x2048x16_S1x2048x16x1
  let main_v44 : IVec S1x2048x16x1 1 := andi main_v41 main_v43
  main_v44

def fn_part1 {F : FTy → Type} [FloatOps F] (main_arg0 : FVec F S1x2048x1024 .f32) (main_arg1 : FVec F S1x2048x1024 .f32) (main_arg7 : FVec F S128x1024 .f32) (main_arg8 : FVec F S128x1024 .f32) (main_v18 : IVec S1x16x2048 1) : IVec S1x2048x16x1 1 :=
  let main_v19 : FVec F S1x2048x128 .f32 := (fun l r => Host.dotGeneral dot_S1x2048x1024_S128x1024_S1x2048x128_2_1_01_0_n_n none l r) main_arg1 main_arg7
  let main_v20 : FVec F S1x2048x16x8 .f32 := shapeCast S1x2048x16x8 main_v19 shapeCasts_S1x2048x128_S1x2048x16x8
  let main_v21 : FVec F S1x2048x16x8 .f32 := Host.negf main_v20
  let main_v22 : FVec F S1x2048x16x8 .f32 := Host.exp main_v21
  let main_cst_4 : FVec F S_ .f32 := constant S_ .f32 0x3F800000#32
  let main_v23 : FVec F S1x2048x16x8 .f32 := broadcastInDim S1x2048x16x8 ![] bcast_S_S1x2048x16x8 main_cst_4
  let main_v24 : FVec F S1x2048x16x8 .f32 := addf main_v23 main_v22
  let main_cst_5 : FVec F S_ .f32 := constant S_ .f32 0x3F800000#32
  let main_v25 : FVec F S1x2048x16x8 .f32 := broadcastInDim S1x2048x16x8 ![] bcast_S_S1x2048x16x8 main_cst_5
  let main_v26 : FVec F S1x2048x16x8 .f32 := Host.divf main_v25 main_v24
  let main_values : FVec F S1x2048x16x3 .f32 := (fun x => (Host.topK S1x2048x16x3 3 (FloatOps.cmpfTotal .gt) x sliceFits_S1x2048x16x8_S1x2048x16x3).1) main_v26
  let main_indices : IVec S1x2048x16x3 32 := (fun x => (Host.topK S1x2048x16x3 3 (FloatOps.cmpfTotal .gt) x sliceFits_S1x2048x16x8_S1x2048x16x3).2) main_v26
  let main_v27 : FVec F S1x2048x16x1 .f32 := (extractStridedSlice S1x2048x16x1 ![0, 0, 0, 1] · slices_S1x2048x16x3_S1x2048x16x1_0_0_0_1) main_values
  let main_v28 : FVec F S1x2048x16x1 .f32 := (extractStridedSlice S1x2048x16x1 ![0, 0, 0, 2] · slices_S1x2048x16x3_S1x2048x16x1_0_0_0_2) main_values
  let main_v29 : IVec S1x2048x16x1 1 := cmpf .ogt main_v27 main_v28
  let main_v30 : FVec F S1x2048x128 .f32 := (fun l r => Host.dotGeneral dot_S1x2048x1024_S128x1024_S1x2048x128_2_1_01_0_n_n none l r) main_arg0 main_arg8
  let main_v31 : FVec F S1x2048x16x8 .f32 := shapeCast S1x2048x16x8 main_v30 shapeCasts_S1x2048x128_S1x2048x16x8
  let main_v32 : FVec F S1x2048x16x8 .f32 := Host.negf main_v31
  let main_v33 : FVec F S1x2048x16x8 .f32 := Host.exp main_v32
  let main_cst_6 : FVec F S_ .f32 := constant S_ .f32 0x3F800000#32
  let main_v34 : FVec F S1x2048x16x8 .f32 := broadcastInDim S1x2048x16x8 ![] bcast_S_S1x2048x16x8 main_cst_6
  let main_v35 : FVec F S1x2048x16x8 .f32 := addf main_v34 main_v33
  let main_cst_7 : FVec F S_ .f32 := constant S_ .f32 0x3F800000#32
  let main_v36 : FVec F S1x2048x16x8 .f32 := broadcastInDim S1x2048x16x8 ![] bcast_S_S1x2048x16x8 main_cst_7
  fn_part2 (F := F) main_v18 main_v29 main_v35 main_v36

def fn {F : FTy → Type} [FloatOps F] (main_arg0 : FVec F S1x2048x1024 .f32) (main_arg1 : FVec F S1x2048x1024 .f32) (main_arg2 : FVec F S1x2048x1024 .f32) (main_arg3 : FVec F S1024x1024 .f32) (main_arg4 : FVec F S1024x1024 .f32) (main_arg5 : FVec F S128x1024x64 .f32) (main_arg6 : FVec F S128x64x1024 .f32) (main_arg7 : FVec F S128x1024 .f32) (main_arg8 : FVec F S128x1024 .f32) : IVec S1x2048x16x1 1 :=
  let main_v0 : FVec F S1024x1024 .f32 := (transpose S1024x1024 [1, 0] · transposes_S1024x1024_S1024x1024_1_0) main_arg3
  let main_v1 : FVec F S1x2048x1024 .f32 := (fun l r => Host.dotGeneral dot_S1x2048x1024_S1024x1024_S1x2048x1024_2_0_01_1_n_n none l r) main_arg0 main_v0
  let main_cst : FVec F S_ .f32 := constant S_ .f32 0x3EB504F3#32
  let main_v2 : FVec F S1x2048x1024 .f32 := broadcastInDim S1x2048x1024 ![] bcast_S_S1x2048x1024 main_cst
  let main_v3 : FVec F S1x2048x1024 .f32 := mulf main_v1 main_v2
  let main_v4 : FVec F S1024x1024 .f32 := (transpose S1024x1024 [1, 0] · transposes_S1024x1024_S1024x1024_1_0) main_arg4
  let main_v5 : FVec F S1x2048x1024 .f32 := (fun l r => Host.dotGeneral dot_S1x2048x1024_S1024x1024_S1x2048x1024_2_0_01_1_n_n none l r) main_arg1 main_v4
  let main_cst_0 : FVec F S_ .f32 := constant S_ .f32 0x3EB504F3#32
  let main_v6 : FVec F S1x2048x1024 .f32 := broadcastInDim S1x2048x1024 ![] bcast_S_S1x2048x1024 main_cst_0
  let main_v7 : FVec F S1x2048x1024 .f32 := mulf main_v5 main_v6
  let main_v8 : FVec F S1x2048x16x64 .f32 := shapeCast S1x2048x16x64 main_v3 shapeCasts_S1x2048x1024_S1x2048x16x64
  let main_v9 : FVec F S1x16x2048x64 .f32 := (transpose S1x16x2048x64 [0, 2, 1, 3] · transposes_S1x2048x16x64_S1x16x2048x64_0_2_1_3) main_v8
  let main_v10 : FVec F S1x2048x16x64 .f32 := shapeCast S1x2048x16x64 main_v7 shapeCasts_S1x2048x1024_S1x2048x16x64
  let main_v11 : FVec F S1x16x2048x64 .f32 := (transpose S1x16x2048x64 [0, 2, 1, 3] · transposes_S1x2048x16x64_S1x16x2048x64_0_2_1_3) main_v10
  let main_v12 : FVec F S1x16x2048x2048 .f32 := (fun l r => Host.dotGeneral dot_S1x16x2048x64_S1x16x2048x64_S1x16x2048x2048_3_3_2_2_01_01 none l r) main_v9 main_v11
  let main_cst_1 : FVec F S_ .f32 := constant S_ .f32 0xFF800000#32
  let main_v13 : FVec F S1x16x2048 .f32 := (fun x v => Host.reduce FloatOps.maximumf x v reducesTo_S1x16x2048x2048_S1x16x2048_d3 h_S_) main_v12 main_cst_1
  let main_cst_2 : FVec F S_ .f32 := constant S_ .f32 0xFF800000#32
  let main_v14 : FVec F S1x16x2048 .f32 := broadcastInDim S1x16x2048 ![] bcast_S_S1x16x2048 main_cst_2
  let main_v15 : IVec S1x16x2048 1 := cmpf .ogt main_v13 main_v14
  let main_cst_3 : FVec F S_ .f32 := constant S_ .f32 0x7F800000#32
  let main_v16 : FVec F S1x16x2048 .f32 := broadcastInDim S1x16x2048 ![] bcast_S_S1x16x2048 main_cst_3
  let main_v17 : IVec S1x16x2048 1 := cmpf .olt main_v13 main_v16
  let main_v18 : IVec S1x16x2048 1 := andi main_v15 main_v17
  fn_part1 (F := F) main_arg0 main_arg1 main_arg7 main_arg8 main_v18
-- ==== Kernel.lean ====
abbrev S1x2048x1024 : Shape := ⟨3, ![1, 2048, 1024]⟩
abbrev S1024x1024 : Shape := ⟨2, ![1024, 1024]⟩
abbrev S128x1024x64 : Shape := ⟨3, ![128, 1024, 64]⟩
abbrev S128x64x1024 : Shape := ⟨3, ![128, 64, 1024]⟩
abbrev S128x1024 : Shape := ⟨2, ![128, 1024]⟩
abbrev S2048x1024 : Shape := ⟨2, ![2048, 1024]⟩
abbrev S_ : Shape := ⟨0, ![]⟩
abbrev S1024x128x64 : Shape := ⟨3, ![1024, 128, 64]⟩
abbrev S1024x8192 : Shape := ⟨2, ![1024, 8192]⟩
abbrev S8192x1024 : Shape := ⟨2, ![8192, 1024]⟩
abbrev S1024x2048 : Shape := ⟨2, ![1024, 2048]⟩
abbrev S128x2048 : Shape := ⟨2, ![128, 2048]⟩
abbrev S512x1024 : Shape := ⟨2, ![512, 1024]⟩
abbrev S1024x512 : Shape := ⟨2, ![1024, 512]⟩
abbrev S128x512 : Shape := ⟨2, ![128, 512]⟩
abbrev S16x8x512 : Shape := ⟨3, ![16, 8, 512]⟩
abbrev S16x512 : Shape := ⟨2, ![16, 512]⟩
abbrev S16x1x512 : Shape := ⟨3, ![16, 1, 512]⟩
abbrev S8192x512 : Shape := ⟨2, ![8192, 512]⟩
abbrev S16x8x64x512 : Shape := ⟨4, ![16, 8, 64, 512]⟩
abbrev S16x8x1x512 : Shape := ⟨4, ![16, 8, 1, 512]⟩
abbrev S16x64x512 : Shape := ⟨3, ![16, 64, 512]⟩
abbrev S512x256 : Shape := ⟨2, ![512, 256]⟩
abbrev S512x2048 : Shape := ⟨2, ![512, 2048]⟩
abbrev S64x256 : Shape := ⟨2, ![64, 256]⟩
abbrev S256x1024 : Shape := ⟨2, ![256, 1024]⟩
abbrev S64x2048 : Shape := ⟨2, ![64, 2048]⟩
abbrev S8x256 : Shape := ⟨2, ![8, 256]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S8x1x256 : Shape := ⟨3, ![8, 1, 256]⟩
abbrev S1x64x256 : Shape := ⟨3, ![1, 64, 256]⟩
abbrev S8x64x256 : Shape := ⟨3, ![8, 64, 256]⟩
abbrev S4096x256 : Shape := ⟨2, ![4096, 256]⟩
abbrev S4096x1024 : Shape := ⟨2, ![4096, 1024]⟩

abbrev nBuf : Space → Nat
  | .hbm => 31
  | .vmem => 30
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024x1024, .f32⟩
  | .hbm, ⟨5, _⟩ => ⟨S128x1024x64, .f32⟩
  | .hbm, ⟨6, _⟩ => ⟨S128x64x1024, .f32⟩
  | .hbm, ⟨7, _⟩ => ⟨S128x1024, .f32⟩
  | .hbm, ⟨8, _⟩ => ⟨S128x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1024x128x64, .f32⟩
  | .hbm, ⟨21, _⟩ => ⟨S1024x128x64, .bf16⟩
  | .hbm, ⟨22, _⟩ => ⟨S1024x8192, .bf16⟩
  | .hbm, ⟨23, _⟩ => ⟨S128x64x1024, .bf16⟩
  | .hbm, ⟨24, _⟩ => ⟨S8192x1024, .bf16⟩
  | .hbm, ⟨25, _⟩ => ⟨S1024x2048, .bf16⟩
  | .hbm, ⟨26, _⟩ => ⟨S1024x2048, .bf16⟩
  | .hbm, ⟨27, _⟩ => ⟨S1024x2048, .bf16⟩
  | .hbm, ⟨28, _⟩ => ⟨S128x2048, .f32⟩
  | .hbm, ⟨29, _⟩ => ⟨S2048x1024, .f32⟩
  | .hbm, ⟨30, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S128x1024, .f32⟩
  | .local _ .vmem, ⟨9, _⟩ => ⟨S128x1024, .f32⟩
  | .local _ .vmem, ⟨10, _⟩ => ⟨S1024x8192, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S128x512, .f32⟩
  | .local _ .vmem, ⟨18, _⟩ => ⟨S128x512, .f32⟩
  | .local _ .vmem, ⟨19, _⟩ => ⟨S512x256, .bf16⟩
  | .local _ .vmem, ⟨20, _⟩ => ⟨S512x256, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S64x256, .f32⟩
  | .local _ .vmem, ⟨26, _⟩ => ⟨S64x256, .f32⟩
  | .local _ .vmem, ⟨27, _⟩ => ⟨S8192x1024, .bf16⟩
  | .local _ .vmem, ⟨28, _⟩ => ⟨S256x1024, .f32⟩
  | .local _ .vmem, ⟨29, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem5_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 2], ![false, false]⟩

def k1_off1 (i : grid1.Coords) : Fin 2 → Nat :=
  let arg1 : BitVec 32 := BitVec.ofNat 32 (i 1).val
  let c4096_i32 : BitVec 32 := 4096#32
  let v209 : BitVec 32 := Scalar.muli arg1 c4096_i32
  let v210 : Index := Scalar.indexCast v209
  let c0_46 : Index := 0#32
  ![v210.toNat, 0]
def k1_cond1 (i : grid1.Coords) : BitVec 1 :=
  let arg1 : BitVec 32 := BitVec.ofNat 32 (i 1).val
  let c0_i32 : BitVec 32 := 0#32
  let v215 : BitVec 1 := Scalar.cmpi .eq arg1 c0_i32
  let v216 : BitVec 32 := Scalar.extui v215
  let c0_i32_48 : BitVec 32 := 0#32
  let v217 : BitVec 1 := Scalar.cmpi .ne v216 c0_i32_48
  v217

def k1_cond2 (i : grid1.Coords) : BitVec 1 :=
  let arg1 : BitVec 32 := BitVec.ofNat 32 (i 1).val
  let c0_i32_49 : BitVec 32 := 0#32
  let v218 : BitVec 1 := Scalar.cmpi .sgt arg1 c0_i32_49
  let v219 : BitVec 32 := Scalar.extui v218
  let c0_i32_50 : BitVec 32 := 0#32
  let v220 : BitVec 1 := Scalar.cmpi .ne v219 c0_i32_50
  v220

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S8192x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S1x2048x1024 : Shape := ⟨3, ![1, 2048, 1024]⟩
abbrev S1024x1024 : Shape := ⟨2, ![1024, 1024]⟩
abbrev S128x1024x64 : Shape := ⟨3, ![128, 1024, 64]⟩
abbrev S128x64x1024 : Shape := ⟨3, ![128, 64, 1024]⟩
abbrev S128x1024 : Shape := ⟨2, ![128, 1024]⟩
abbrev S_ : Shape := ⟨0, ![]⟩
abbrev S1x2048x128 : Shape := ⟨3, ![1, 2048, 128]⟩
abbrev S1x2048x16x8 : Shape := ⟨4, ![1, 2048, 16, 8]⟩
abbrev S1x2048x16x2 : Shape := ⟨4, ![1, 2048, 16, 2]⟩
abbrev S1x2048x16x2x1 : Shape := ⟨5, ![1, 2048, 16, 2, 1]⟩
abbrev S1x1x1x1x8 : Shape := ⟨5, ![1, 1, 1, 1, 8]⟩
abbrev S1x2048x16x2x8 : Shape := ⟨5, ![1, 2048, 16, 2, 8]⟩
abbrev S16x8x1024x64 : Shape := ⟨4, ![16, 8, 1024, 64]⟩
abbrev S16x8x64x1x2048 : Shape := ⟨5, ![16, 8, 64, 1, 2048]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S16x8x64x1024 : Shape := ⟨4, ![16, 8, 64, 1024]⟩
abbrev S1x2048x16x8x1 : Shape := ⟨5, ![1, 2048, 16, 8, 1]⟩
abbrev S1x2048x16x1x64 : Shape := ⟨5, ![1, 2048, 16, 1, 64]⟩
abbrev S1x2048x16x8x64 : Shape := ⟨5, ![1, 2048, 16, 8, 64]⟩

abbrev nBuf : Space → Nat
  | .hbm => 97
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024x1024, .f32⟩
  | .hbm, ⟨5, _⟩ => ⟨S128x1024x64, .f32⟩
  | .hbm, ⟨6, _⟩ => ⟨S128x64x1024, .f32⟩
  | .hbm, ⟨7, _⟩ => ⟨S128x1024, .f32⟩
  | .hbm, ⟨8, _⟩ => ⟨S128x1024, .f32⟩
  | .hbm, ⟨9, _⟩ => ⟨S1024x1024, .f32⟩
  | .hbm, ⟨10, _⟩ => ⟨S1x2048x1024, .f32⟩
  | .hbm, ⟨11, _⟩ => ⟨S_, .f32⟩
  | .hbm, ⟨12, _⟩ => ⟨S1x2048x1024, .f32⟩
  | .hbm, ⟨13, _⟩ => ⟨S1x2048x1024, .f32⟩
  | .hbm, ⟨14, _⟩ => ⟨S1024x1024, .f32⟩
  | .hbm, ⟨15, _⟩ => ⟨S1x2048x1024, .f32⟩
  | .hbm, ⟨16, _⟩ => ⟨S_, .f32⟩
  | .hbm, ⟨17, _⟩ => ⟨S1x2048x1024, .f32⟩
  | .hbm, ⟨18, _⟩ => ⟨S1x2048x1024, .f32⟩
  | .hbm, ⟨19, _⟩ => ⟨S1x2048x128, .f32⟩
  | .hbm, ⟨20, _⟩ => ⟨S1x2048x16x8, .f32⟩
  | .hbm, ⟨21, _⟩ => ⟨S1x2048x16x8, .f32⟩
  | .hbm, ⟨22, _⟩ => ⟨S1x2048x16x8, .f32⟩
  | .hbm, ⟨23, _⟩ => ⟨S_, .f32⟩
  | .hbm, ⟨24, _⟩ => ⟨S1x2048x16x8, .f32⟩
  | .hbm, ⟨25, _⟩ => ⟨S1x2048x16x8, .f32⟩
  | .hbm, ⟨26, _⟩ => ⟨S_, .f32⟩
  | .hbm, ⟨27, _⟩ => ⟨S1x2048x16x8, .f32⟩
  | .hbm, ⟨28, _⟩ => ⟨S1x2048x16x8, .f32⟩
  | .hbm, ⟨29, _⟩ => ⟨S1x2048x16x2, .f32⟩
  | .hbm, ⟨30, _⟩ => ⟨S1x2048x16x2, .i32⟩
  | .hbm, ⟨31, _⟩ => ⟨S1x2048x16x2x1, .i32⟩
  | .hbm, ⟨32, _⟩ => ⟨S1x1x1x1x8, .i32⟩
  | .hbm, ⟨33, _⟩ => ⟨S1x2048x16x2x8, .i32⟩
  | .hbm, ⟨34, _⟩ => ⟨S1x2048x16x2x8, .i32⟩
  | .hbm, ⟨35, _⟩ => ⟨S1x2048x16x2x8, .i1⟩
  | .hbm, ⟨36, _⟩ => ⟨S1x2048x16x2x8, .f32⟩
  | .hbm, ⟨37, _⟩ => ⟨S1x2048x16x2x1, .f32⟩
  | .hbm, ⟨38, _⟩ => ⟨S1x2048x16x2x8, .f32⟩
  | .hbm, ⟨39, _⟩ => ⟨S1x2048x16x2x8, .f32⟩
  | .hbm, ⟨40, _⟩ => ⟨S_, .f32⟩
  | .hbm, ⟨41, _⟩ => ⟨S1x2048x16x8, .f32⟩
  | .hbm, ⟨42, _⟩ => ⟨S1x2048x128, .f32⟩
  | .hbm, ⟨43, _⟩ => ⟨S1x2048x16x8, .f32⟩
  | .hbm, ⟨44, _⟩ => ⟨S1x2048x16x8, .f32⟩
  | .hbm, ⟨45, _⟩ => ⟨S1x2048x16x8, .f32⟩
  | .hbm, ⟨46, _⟩ => ⟨S_, .f32⟩
  | .hbm, ⟨47, _⟩ => ⟨S1x2048x16x8, .f32⟩
  | .hbm, ⟨48, _⟩ => ⟨S1x2048x16x8, .f32⟩
  | .hbm, ⟨49, _⟩ => ⟨S_, .f32⟩
  | .hbm, ⟨50, _⟩ => ⟨S1x2048x16x8, .f32⟩
  | .hbm, ⟨51, _⟩ => ⟨S1x2048x16x8, .f32⟩
  | .hbm, ⟨52, _⟩ => ⟨S1x2048x16x2, .f32⟩
  | .hbm, ⟨53, _⟩ => ⟨S1x2048x16x2, .i32⟩
  | .hbm, ⟨54, _⟩ => ⟨S1x2048x16x2x1, .i32⟩
  | .hbm, ⟨55, _⟩ => ⟨S1x1x1x1x8, .i32⟩
  | .hbm, ⟨56, _⟩ => ⟨S1x2048x16x2x8, .i32⟩
  | .hbm, ⟨57, _⟩ => ⟨S1x2048x16x2x8, .i32⟩
  | .hbm, ⟨58, _⟩ => ⟨S1x2048x16x2x8, .i1⟩
  | .hbm, ⟨59, _⟩ => ⟨S1x2048x16x2x8, .f32⟩
  | .hbm, ⟨60, _⟩ => ⟨S1x2048x16x2x1, .f32⟩
  | .hbm, ⟨61, _⟩ => ⟨S1x2048x16x2x8, .f32⟩
  | .hbm, ⟨62, _⟩ => ⟨S1x2048x16x2x8, .f32⟩
  | .hbm, ⟨63, _⟩ => ⟨S_, .f32⟩
  | .hbm, ⟨64, _⟩ => ⟨S1x2048x16x8, .f32⟩
  | .hbm, ⟨65, _⟩ => ⟨S16x8x1024x64, .f32⟩
  | .hbm, ⟨66, _⟩ => ⟨S16x8x64x1x2048, .f32⟩
  | .hbm, ⟨67, _⟩ => ⟨S1x2048x16x64, .f32⟩
  | .hbm, ⟨68, _⟩ => ⟨S1x2048x16x64, .f32⟩
  | .hbm, ⟨69, _⟩ => ⟨S1x16x2048x64, .f32⟩
  | .hbm, ⟨70, _⟩ => ⟨S1x2048x16x64, .f32⟩
  | .hbm, ⟨71, _⟩ => ⟨S1x16x2048x64, .f32⟩
  | .hbm, ⟨72, _⟩ => ⟨S1x16x2048x64, .f32⟩
  | .hbm, ⟨73, _⟩ => ⟨S1x16x2048x2048, .f32⟩
  | .hbm, ⟨74, _⟩ => ⟨S_, .f32⟩
  | .hbm, ⟨75, _⟩ => ⟨S1x16x2048, .f32⟩
  | .hbm, ⟨76, _⟩ => ⟨S_, .f32⟩
  | .hbm, ⟨77, _⟩ => ⟨S1x16x2048, .f32⟩
  | .hbm, ⟨78, _⟩ => ⟨S1x16x2048, .f32⟩
  | .hbm, ⟨79, _⟩ => ⟨S1x16x2048x1, .f32⟩
  | .hbm, ⟨80, _⟩ => ⟨S1x16x2048x2048, .f32⟩
  | .hbm, ⟨81, _⟩ => ⟨S1x16x2048x2048, .f32⟩
  | .hbm, ⟨82, _⟩ => ⟨S1x16x2048x2048, .f32⟩
  | .hbm, ⟨83, _⟩ => ⟨S_, .f32⟩
  | .hbm, ⟨84, _⟩ => ⟨S1x16x2048, .f32⟩
  | .hbm, ⟨85, _⟩ => ⟨S1x16x2048x1, .f32⟩
  | .hbm, ⟨86, _⟩ => ⟨S1x16x2048x2048, .f32⟩
  | .hbm, ⟨87, _⟩ => ⟨S1x16x2048x2048, .f32⟩
  | .hbm, ⟨88, _⟩ => ⟨S1x16x2048x64, .f32⟩
  | .hbm, ⟨89, _⟩ => ⟨S1x2048x16x64, .f32⟩
  | .hbm, ⟨90, _⟩ => ⟨S16x8x64x1024, .f32⟩
  | .hbm, ⟨91, _⟩ => ⟨S1x2048x16x8x1, .f32⟩
  | .hbm, ⟨92, _⟩ => ⟨S1x2048x16x1x64, .f32⟩
  | .hbm, ⟨93, _⟩ => ⟨S1x2048x16x8x64, .f32⟩
  | .hbm, ⟨94, _⟩ => ⟨S1x2048x16x8x64, .f32⟩
  | .hbm, ⟨95, _⟩ => ⟨S1x2048x16x8x64, .f32⟩
  | .hbm, ⟨96, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_values : Ref sig .tc := ⟨.hbm, 29, rfl⟩
abbrev main_indices : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_values_6 : Ref sig .tc := ⟨.hbm, 52, rfl⟩
abbrev main_indices_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩

abbrev nD : Nat := 1
abbrev τ : Topo := Topo.v7x

variable {F : FTy → Type} [FloatOps F]
-- ==== Proof.KernelIdeal.Projection.lean ====
/- The projection call of the program: its body, its windows, and what every grid point leaves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of call 0 at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point of call 0, whether fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point of call 0, whether fetched there or kept. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point of call 0, whether fetched there or kept. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point of call 0, whether fetched there or kept. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point of call 0, whether fetched there or kept. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point of call 0, whether fetched there or kept. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point of call 0, whether fetched there or kept. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point of call 0, whether fetched there or kept. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- A whole block as the rectangle the body accesses. -/
abbrev r0_0 : Rect S512x1024 := Rect.unit (s := S512x1024) ![0, 0] S512x1024.size inb_S512x1024_S512x1024_0_0
/-- A whole block as the rectangle the body accesses. -/
abbrev r0_1 : Rect S1024x1024 := Rect.unit (s := S1024x1024) ![0, 0] S1024x1024.size inb_S1024x1024_S1024x1024_0_0
/-- A whole block as the rectangle the body accesses. -/
abbrev r0_2 : Rect S1024x512 := Rect.unit (s := S1024x512) ![0, 0] S1024x512.size inb_S1024x512_S1024x512_0_0
/-- A whole block as the rectangle the body accesses. -/
abbrev r0_3 : Rect S128x1024 := Rect.unit (s := S128x1024) ![0, 0] S128x1024.size inb_S128x1024_S128x1024_0_0
/-- A whole block as the rectangle the body accesses. -/
abbrev r0_4 : Rect S128x512 := Rect.unit (s := S128x512) ![0, 0] S128x512.size inb_S128x512_S128x512_0_0
/-- A whole block as the rectangle the body accesses. -/
abbrev r0_5 : Rect S1024x8192 := Rect.unit (s := S1024x8192) ![0, 0] S1024x8192.size inb_S1024x8192_S1024x8192_0_0

/-- What the projection body leaves in output window 8. -/
def out0_8 (x0 : Vec F S512x1024 .f32) (x1 : Vec F S512x1024 .f32) (x2 : Vec F S512x1024 .f32) (x3 : Vec F S1024x1024 .bf16) (x4 : Vec F S1024x1024 .bf16) (x5 : Vec F S128x1024 .f32) (x6 : Vec F S128x1024 .f32) (x7 : Vec F S1024x8192 .bf16) : Vec F S1024x512 .bf16 :=
  View.canon [⟨r0_2, k0_pay4 (View.ld x0 r0_0) (View.ld x3 r0_1)⟩]

/-- The one store into output window 8 covers its block. -/
theorem cover0_8 (p0 : Vec F S1024x512 .bf16) (y : S1024x512.Idx) :
    ∃ pc ∈ ([⟨r0_2, p0⟩] : List (View.Piece (Elt F) S1024x512 .bf16)), y ∈ pc.1.set :=
  View.cover_of_tiled [⟨r0_2, p0⟩] S1024x512.size (by rfl) y

/-- What the projection body leaves in output window 9. -/
def out0_9 (x0 : Vec F S512x1024 .f32) (x1 : Vec F S512x1024 .f32) (x2 : Vec F S512x1024 .f32) (x3 : Vec F S1024x1024 .bf16) (x4 : Vec F S1024x1024 .bf16) (x5 : Vec F S128x1024 .f32) (x6 : Vec F S128x1024 .f32) (x7 : Vec F S1024x8192 .bf16) : Vec F S1024x512 .bf16 :=
  View.canon [⟨r0_2, k0_pay5 (View.ld x1 r0_0) (View.ld x4 r0_1)⟩]

/-- The one store into output window 9 covers its block. -/
theorem cover0_9 (p0 : Vec F S1024x512 .bf16) (y : S1024x512.Idx) :
    ∃ pc ∈ ([⟨r0_2, p0⟩] : List (View.Piece (Elt F) S1024x512 .bf16)), y ∈ pc.1.set :=
  View.cover_of_tiled [⟨r0_2, p0⟩] S1024x512.size (by rfl) y

/-- What the projection body leaves in output window 10. -/
def out0_10 (x0 : Vec F S512x1024 .f32) (x1 : Vec F S512x1024 .f32) (x2 : Vec F S512x1024 .f32) (x3 : Vec F S1024x1024 .bf16) (x4 : Vec F S1024x1024 .bf16) (x5 : Vec F S128x1024 .f32) (x6 : Vec F S128x1024 .f32) (x7 : Vec F S1024x8192 .bf16) : Vec F S1024x512 .bf16 :=
  View.canon [⟨r0_2, k0_pay1 (k0_pay10 (k0_pay7 (View.ld x1 r0_0) (View.ld x5 r0_3)) (k0_pay8 (View.ld x1 r0_0) (View.ld x5 r0_3)) (Scalar.ofBits .f32 0xBF800000#32) (View.ld x7 r0_5) (View.ld x2 r0_0))⟩]

/-- The one store into output window 10 covers its block. -/
theorem cover0_10 (p0 : Vec F S1024x512 .bf16) (y : S1024x512.Idx) :
    ∃ pc ∈ ([⟨r0_2, p0⟩] : List (View.Piece (Elt F) S1024x512 .bf16)), y ∈ pc.1.set :=
  View.cover_of_tiled [⟨r0_2, p0⟩] S1024x512.size (by rfl) y

/-- What the projection body leaves in output window 11. -/
def out0_11 (x0 : Vec F S512x1024 .f32) (x1 : Vec F S512x1024 .f32) (x2 : Vec F S512x1024 .f32) (x3 : Vec F S1024x1024 .bf16) (x4 : Vec F S1024x1024 .bf16) (x5 : Vec F S128x1024 .f32) (x6 : Vec F S128x1024 .f32) (x7 : Vec F S1024x8192 .bf16) : Vec F S128x512 .f32 :=
  View.canon [⟨r0_4, k0_pay9 (k0_pay6 (View.ld x0 r0_0) (View.ld x6 r0_3))⟩]

/-- The one store into output window 11 covers its block. -/
theorem cover0_11 (p0 : Vec F S128x512 .f32) (y : S128x512.Idx) :
    ∃ pc ∈ ([⟨r0_4, p0⟩] : List (View.Piece (Elt F) S128x512 .f32)), y ∈ pc.1.set :=
  View.cover_of_tiled [⟨r0_4, p0⟩] S128x512.size (by rfl) y

set_option maxHeartbeats 1000000 in

/-- The projection body on whole staging buffers: the inputs stay, each output is left at its named value. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1024x8192 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S128x512 .f32) (harg12 : arg12.IsWhole)
    (x0 : Vec F S512x1024 .f32) (x1 : Vec F S512x1024 .f32) (x2 : Vec F S512x1024 .f32) (x3 : Vec F S1024x1024 .bf16) (x4 : Vec F S1024x1024 .bf16) (x5 : Vec F S128x1024 .f32) (x6 : Vec F S128x1024 .f32) (x7 : Vec F S1024x8192 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-- The proof data of call 0: its arrays at entry, and what each buffer holds after the body at each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The arrays of the proof data are the contents at the entry of call 0. -/
theorem A_eq0 (c : Dev nD) (w : Fin cfg0.W) : (dat0 V c).A w = V c (Pipeline.arrRef spec0 w) := by
  dsimp only [dat0]

/-- What window 0 of call 0 holds after the body. -/
theorem after0_0 (c : Dev nD) (t : Fin cfg0.N) : (dat0 V c).after 0 t = iblk0 V c 0 t := by dsimp only [dat0]
/-- What window 1 of call 0 holds after the body. -/
theorem after0_1 (c : Dev nD) (t : Fin cfg0.N) : (dat0 V c).after 1 t = iblk0 V c 1 t := by dsimp only [dat0]
/-- What window 2 of call 0 holds after the body. -/
theorem after0_2 (c : Dev nD) (t : Fin cfg0.N) : (dat0 V c).after 2 t = iblk0 V c 2 t := by dsimp only [dat0]
/-- What window 3 of call 0 holds after the body. -/
theorem after0_3 (c : Dev nD) (t : Fin cfg0.N) : (dat0 V c).after 3 t = iblk0 V c 3 t := by dsimp only [dat0]
/-- What window 4 of call 0 holds after the body. -/
theorem after0_4 (c : Dev nD) (t : Fin cfg0.N) : (dat0 V c).after 4 t = iblk0 V c 4 t := by dsimp only [dat0]
/-- What window 5 of call 0 holds after the body. -/
theorem after0_5 (c : Dev nD) (t : Fin cfg0.N) : (dat0 V c).after 5 t = iblk0 V c 5 t := by dsimp only [dat0]
/-- What window 6 of call 0 holds after the body. -/
theorem after0_6 (c : Dev nD) (t : Fin cfg0.N) : (dat0 V c).after 6 t = iblk0 V c 6 t := by dsimp only [dat0]
/-- What window 7 of call 0 holds after the body. -/
theorem after0_7 (c : Dev nD) (t : Fin cfg0.N) : (dat0 V c).after 7 t = iblk0 V c 7 t := by dsimp only [dat0]
/-- What window 8 of call 0 holds after the body. -/
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
/-- What window 9 of call 0 holds after the body. -/
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]
/-- What window 10 of call 0 holds after the body. -/
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]
/-- What window 11 of call 0 holds after the body. -/
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) := by dsimp only [dat0]

/-- Input window 0 of call 0 holds its block before the body. -/
theorem before0_0 (c : Dev nD) (t : Fin cfg0.N) (d) : (dat0 V c).before 0 t d = iblk0 V c 0 t :=
  before0_0_of V (dat0 V c) (A_eq0 V c 0) (after0_0 V c) t d
/-- Input window 1 of call 0 holds its block before the body. -/
theorem before0_1 (c : Dev nD) (t : Fin cfg0.N) (d) : (dat0 V c).before 1 t d = iblk0 V c 1 t :=
  before0_1_of V (dat0 V c) (A_eq0 V c 1) (after0_1 V c) t d
/-- Input window 2 of call 0 holds its block before the body. -/
theorem before0_2 (c : Dev nD) (t : Fin cfg0.N) (d) : (dat0 V c).before 2 t d = iblk0 V c 2 t :=
  before0_2_of V (dat0 V c) (A_eq0 V c 2) (after0_2 V c) t d
/-- Input window 3 of call 0 holds its block before the body. -/
theorem before0_3 (c : Dev nD) (t : Fin cfg0.N) (d) : (dat0 V c).before 3 t d = iblk0 V c 3 t :=
  before0_3_of V (dat0 V c) (A_eq0 V c 3) (after0_3 V c) t d
/-- Input window 4 of call 0 holds its block before the body. -/
theorem before0_4 (c : Dev nD) (t : Fin cfg0.N) (d) : (dat0 V c).before 4 t d = iblk0 V c 4 t :=
  before0_4_of V (dat0 V c) (A_eq0 V c 4) (after0_4 V c) t d
/-- Input window 5 of call 0 holds its block before the body. -/
theorem before0_5 (c : Dev nD) (t : Fin cfg0.N) (d) : (dat0 V c).before 5 t d = iblk0 V c 5 t :=
  before0_5_of V (dat0 V c) (A_eq0 V c 5) (after0_5 V c) t d
/-- Input window 6 of call 0 holds its block before the body. -/
theorem before0_6 (c : Dev nD) (t : Fin cfg0.N) (d) : (dat0 V c).before 6 t d = iblk0 V c 6 t :=
  before0_6_of V (dat0 V c) (A_eq0 V c 6) (after0_6 V c) t d
/-- Input window 7 of call 0 holds its block before the body. -/
theorem before0_7 (c : Dev nD) (t : Fin cfg0.N) (d) : (dat0 V c).before 7 t d = iblk0 V c 7 t :=
  before0_7_of V (dat0 V c) (A_eq0 V c 7) (after0_7 V c) t d

/-- What the body of call 0 is entered with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What the body of call 0 returns at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body of call 0 at any point leaves what the proof data says. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body that call 0 runs at point `t`. -/
theorem defs₀_row0 (t : Fin cfg0.N) :
    defs₀ (F := F) .tc cfg0.body (cfg0.bodyArgs t (cfg0.slots t)) = bodyAt0 t := by
  unfold defs₀; rw [Defs.onTc_tc]

/-- The body's obligation of call 0, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Att

end
-- ==== Proof.KernelIdeal.AttentionBody.lean ====
/- The attention call: its windows, its two branches, and the runs of its body at even and odd points. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of call 1 at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point of call 1, whether fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point of call 1, whether fetched there or kept. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point of call 1, whether fetched there or kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point of call 1, whether fetched there or kept. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point of call 1, whether fetched there or kept. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first branch of the attention body: the head block is the first. -/
abbrev cond1_0 (i : grid1.Coords) : Prop := k1_cond1 i = 1#1

/-- It is taken at the even points. -/
theorem hcond1_0 : ∀ t : Fin cfg1.N, cond1_0 (grid1.coords t) ↔ t.val % 2 = 0 :=
  (fun t => by
    have ht : t.val < 16 := Nat.lt_of_lt_of_eq t.isLt N_1
    have e0 : (grid1.coords t 0).val = t.val / 2 % 8 := Pipeline.Grid.coords_val t 0 (by decide) rfl
    have e1 : (grid1.coords t 1).val = t.val / 1 % 2 := Pipeline.Grid.coords_val t 1 (by decide) rfl
    simp only [cond1_0, k1_cond1, e0, e1]
    word_cmp
   : ∀ t : Fin grid1.N, cond1_0 (grid1.coords t) ↔ t.val % 2 = 0)

/-- The second branch of the attention body: the head block is a later one. -/
abbrev cond1_1 (i : grid1.Coords) : Prop := k1_cond2 i = 1#1

/-- It is taken at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- Window 0 is in use. -/
theorem liveAt1_0 : ∀ t : Fin cfg1.N, cfg1.idle 0 (grid1.coords t) = false := fun _ => rfl

/-- Window 1 is in use. -/
theorem liveAt1_1 : ∀ t : Fin cfg1.N, cfg1.idle 1 (grid1.coords t) = false := fun _ => rfl

/-- Window 2 is in use. -/
theorem liveAt1_2 : ∀ t : Fin cfg1.N, cfg1.idle 2 (grid1.coords t) = false := fun _ => rfl

/-- Window 3 is in use. -/
theorem liveAt1_3 : ∀ t : Fin cfg1.N, cfg1.idle 3 (grid1.coords t) = false := fun _ => rfl

/-- Window 4 is in use. -/
theorem liveAt1_4 : ∀ t : Fin cfg1.N, cfg1.idle 4 (grid1.coords t) = false := fun _ => rfl

/-- Whether the output's buffer holds nothing stored since it was last written back. -/
def freshTab1_5 : ℕ → Bool
  | 0 => true
  | n + 1 => (0xaaaa : ℕ).testBit n
/-- The table agrees with the pipeline's own step. -/
theorem freshTab1_5_step : ∀ t : Fin cfg1.N,
    freshTab1_5 (t.val + 1) = ((cfg1.win 5).flush t || (cfg1.idle 5 (cfg1.grid.coords t) && freshTab1_5 t.val)) := by decide +kernel
/-- So the table is the pipeline's notion. -/
theorem fresh1_5_eq (t : Fin cfg1.N) : cfg1.fresh 5 t.val = freshTab1_5 t.val :=
  Pipeline.Cfg.fresh_tab cfg1 5 freshTab1_5 rfl freshTab1_5_step t.val (Nat.le_of_lt t.isLt)

/-- Window 5 is in use. -/
theorem liveAt1_5_A : ∀ t : Fin cfg1.N, cond1_0 (grid1.coords t) → ¬cond1_1 (grid1.coords t) → cfg1.idle 5 (grid1.coords t) = false := by decide +kernel

/-- Window 5 is in use. -/
theorem liveAt1_5_B : ∀ t : Fin cfg1.N, ¬cond1_0 (grid1.coords t) → cond1_1 (grid1.coords t) → cfg1.idle 5 (grid1.coords t) = false := by decide +kernel

/-- At the odd points the output's buffer holds a stored value. -/
theorem notFresh1_5_B : ∀ t : Fin cfg1.N, ¬cond1_0 (grid1.coords t) → cond1_1 (grid1.coords t) → cfg1.fresh 5 t.val = false := by
  intro t; rw [fresh1_5_eq t]; revert t; decide +kernel

/-- One staging buffer of the output window, through which its contents are stated. -/
abbrev VO1_5 : View sig .tc .vmem S256x1024 .f32 := (Memref.whole cc1_stg5_0 : Memref sig .tc .vmem S256x1024 .f32).view

/-- Window 0's staging buffer at point `t`. -/
abbrev ms1_0 (t : Fin cfg1.N) : Memref sig .tc .vmem S512x256 .bf16 := win1_0.stage (cfg1.slots t 0)
/-- Window 0's staging buffer is whole. -/
abbrev hs1_0 (t : Fin cfg1.N) : (ms1_0 t).IsWhole := hstage1_0 ((cfg1.slots t 0).cast nbuf1_0)
/-- Window 1's staging buffer at point `t`. -/
abbrev ms1_1 (t : Fin cfg1.N) : Memref sig .tc .vmem S512x2048 .bf16 := win1_1.stage (cfg1.slots t 1)
/-- Window 1's staging buffer is whole. -/
abbrev hs1_1 (t : Fin cfg1.N) : (ms1_1 t).IsWhole := hstage1_1 ((cfg1.slots t 1).cast nbuf1_1)
/-- Window 2's staging buffer at point `t`. -/
abbrev ms1_2 (t : Fin cfg1.N) : Memref sig .tc .vmem S512x2048 .bf16 := win1_2.stage (cfg1.slots t 2)
/-- Window 2's staging buffer is whole. -/
abbrev hs1_2 (t : Fin cfg1.N) : (ms1_2 t).IsWhole := hstage1_2 ((cfg1.slots t 2).cast nbuf1_2)
/-- Window 3's staging buffer at point `t`. -/
abbrev ms1_3 (t : Fin cfg1.N) : Memref sig .tc .vmem S64x256 .f32 := win1_3.stage (cfg1.slots t 3)
/-- Window 3's staging buffer is whole. -/
abbrev hs1_3 (t : Fin cfg1.N) : (ms1_3 t).IsWhole := hstage1_3 ((cfg1.slots t 3).cast nbuf1_3)
/-- Window 4's staging buffer at point `t`. -/
abbrev ms1_4 (t : Fin cfg1.N) : Memref sig .tc .vmem S8192x1024 .bf16 := win1_4.stage (cfg1.slots t 4)
/-- Window 4's staging buffer is whole. -/
abbrev hs1_4 (t : Fin cfg1.N) : (ms1_4 t).IsWhole := hstage1_4 ((cfg1.slots t 4).cast nbuf1_4)
/-- Window 5's staging buffer at point `t`. -/
abbrev ms1_5 (t : Fin cfg1.N) : Memref sig .tc .vmem S256x1024 .f32 := win1_5.stage (cfg1.slots t 5)
/-- Window 5's staging buffer is whole. -/
abbrev hs1_5 (t : Fin cfg1.N) : (ms1_5 t).IsWhole := hstage1_5 ((cfg1.slots t 5).cast nbuf1_5)

set_option maxHeartbeats 1000000 in

/-- The stores of the attention body at an even point, with the proof that the body runs and leaves them. -/
noncomputable def kernelRun1_A (c : Dev nD) (i : grid1.Coords) (arg2 : Memref sig .tc .vmem S512x256 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S64x256 .f32) (harg5 : arg5.IsWhole) (arg6 : Memref sig .tc .vmem S8192x1024 .bf16) (harg6 : arg6.IsWhole) (arg7 : Memref sig .tc .vmem S256x1024 .f32) (harg7 : arg7.IsWhole) (hc0 : cond1_0 i) (hc1 : ¬cond1_1 i)
    (x0 : Vec F S512x256 .bf16) (x1 : Vec F S512x2048 .bf16) (x2 : Vec F S512x2048 .bf16) (x3 : Vec F S64x256 .f32) (x4 : Vec F S8192x1024 .bf16) :
    { L5 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__attn_out_kernel i arg2 harg2 arg3 harg3 arg4 harg4 arg5 harg5 arg6 harg6 arg7 harg7) K } := by
  refine ⟨?_, fun E K => ?run⟩
  case run =>
    simp only [cc1__attn_out_kernel_eq_skeleton]; unfold cc1__attn_out_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 1000000 in

/-- The stores of the attention body at an odd point, with the proof that the body runs and leaves them. -/
noncomputable def kernelRun1_B (c : Dev nD) (i : grid1.Coords) (arg2 : Memref sig .tc .vmem S512x256 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S64x256 .f32) (harg5 : arg5.IsWhole) (arg6 : Memref sig .tc .vmem S8192x1024 .bf16) (harg6 : arg6.IsWhole) (arg7 : Memref sig .tc .vmem S256x1024 .f32) (harg7 : arg7.IsWhole) (hc0 : ¬cond1_0 i) (hc1 : cond1_1 i)
    (x0 : Vec F S512x256 .bf16) (x1 : Vec F S512x2048 .bf16) (x2 : Vec F S512x2048 .bf16) (x3 : Vec F S64x256 .f32) (x4 : Vec F S8192x1024 .bf16) (xo5 : Vec F S256x1024 .f32) :
    { L5 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__attn_out_kernel i arg2 harg2 arg3 harg3 arg4 harg4 arg5 harg5 arg6 harg6 arg7 harg7) K } := by
  refine ⟨?_, fun E K => ?run⟩
  case run =>
    simp only [cc1__attn_out_kernel_eq_skeleton]; unfold cc1__attn_out_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Att

end
-- ==== Proof.KernelIdeal.Attention.lean ====
/- The attention call: what its output buffer holds after each point, and the obligation of its body. -/
module

public import proofs.«01_k».proof.Proof.KernelIdeal.AttentionBody

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The store at an even point covers the output block. -/
theorem cover1_A_5 (c : Dev nD) (i : grid1.Coords) (arg2 : Memref sig .tc .vmem S512x256 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S64x256 .f32) (harg5 : arg5.IsWhole) (arg6 : Memref sig .tc .vmem S8192x1024 .bf16) (harg6 : arg6.IsWhole) (arg7 : Memref sig .tc .vmem S256x1024 .f32) (harg7 : arg7.IsWhole) (hc0 : cond1_0 i) (hc1 : ¬cond1_1 i)
    (x0 : Vec F S512x256 .bf16) (x1 : Vec F S512x2048 .bf16) (x2 : Vec F S512x2048 .bf16) (x3 : Vec F S64x256 .f32) (x4 : Vec F S8192x1024 .bf16) (y : S256x1024.Idx) :
    ∃ pc ∈ (kernelRun1_A c i arg2 harg2 arg3 harg3 arg4 harg4 arg5 harg5 arg6 harg6 arg7 harg7 hc0 hc1 x0 x1 x2 x3 x4).1, y ∈ pc.1.set :=
  View.cover_of_tiledL (kernelRun1_A c i arg2 harg2 arg3 harg3 arg4 harg4 arg5 harg5 arg6 harg6 arg7 harg7 hc0 hc1 x0 x1 x2 x3 x4).1 S256x1024.size (by sl_kernel_rfl) y

/-- What an even point leaves in the output block. -/
def out1_A_5 (c : Dev nD) (i : grid1.Coords) (arg2 : Memref sig .tc .vmem S512x256 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S64x256 .f32) (harg5 : arg5.IsWhole) (arg6 : Memref sig .tc .vmem S8192x1024 .bf16) (harg6 : arg6.IsWhole) (arg7 : Memref sig .tc .vmem S256x1024 .f32) (harg7 : arg7.IsWhole) (hc0 : cond1_0 i) (hc1 : ¬cond1_1 i)
    (x0 : Vec F S512x256 .bf16) (x1 : Vec F S512x2048 .bf16) (x2 : Vec F S512x2048 .bf16) (x3 : Vec F S64x256 .f32) (x4 : Vec F S8192x1024 .bf16) : Vec F S256x1024 .f32 :=
  VO1_5.read (Elt F) (VO1_5.writes (Elt F) VO1_5.junk (kernelRun1_A c i arg2 harg2 arg3 harg3 arg4 harg4 arg5 harg5 arg6 harg6 arg7 harg7 hc0 hc1 x0 x1 x2 x3 x4).1)

/-- The store at an odd point covers the output block. -/
theorem cover1_B_5 (c : Dev nD) (i : grid1.Coords) (arg2 : Memref sig .tc .vmem S512x256 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S64x256 .f32) (harg5 : arg5.IsWhole) (arg6 : Memref sig .tc .vmem S8192x1024 .bf16) (harg6 : arg6.IsWhole) (arg7 : Memref sig .tc .vmem S256x1024 .f32) (harg7 : arg7.IsWhole) (hc0 : ¬cond1_0 i) (hc1 : cond1_1 i)
    (x0 : Vec F S512x256 .bf16) (x1 : Vec F S512x2048 .bf16) (x2 : Vec F S512x2048 .bf16) (x3 : Vec F S64x256 .f32) (x4 : Vec F S8192x1024 .bf16) (xo5 : Vec F S256x1024 .f32) (y : S256x1024.Idx) :
    ∃ pc ∈ (kernelRun1_B c i arg2 harg2 arg3 harg3 arg4 harg4 arg5 harg5 arg6 harg6 arg7 harg7 hc0 hc1 x0 x1 x2 x3 x4 xo5).1, y ∈ pc.1.set :=
  View.cover_of_tiledL (kernelRun1_B c i arg2 harg2 arg3 harg3 arg4 harg4 arg5 harg5 arg6 harg6 arg7 harg7 hc0 hc1 x0 x1 x2 x3 x4 xo5).1 S256x1024.size (by sl_kernel_rfl) y

/-- What an odd point leaves in the output block. -/
def out1_B_5 (c : Dev nD) (i : grid1.Coords) (arg2 : Memref sig .tc .vmem S512x256 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S64x256 .f32) (harg5 : arg5.IsWhole) (arg6 : Memref sig .tc .vmem S8192x1024 .bf16) (harg6 : arg6.IsWhole) (arg7 : Memref sig .tc .vmem S256x1024 .f32) (harg7 : arg7.IsWhole) (hc0 : ¬cond1_0 i) (hc1 : cond1_1 i)
    (x0 : Vec F S512x256 .bf16) (x1 : Vec F S512x2048 .bf16) (x2 : Vec F S512x2048 .bf16) (x3 : Vec F S64x256 .f32) (x4 : Vec F S8192x1024 .bf16) (xo5 : Vec F S256x1024 .f32) : Vec F S256x1024 .f32 :=
  VO1_5.read (Elt F) (VO1_5.writes (Elt F) VO1_5.junk (kernelRun1_B c i arg2 harg2 arg3 harg3 arg4 harg4 arg5 harg5 arg6 harg6 arg7 harg7 hc0 hc1 x0 x1 x2 x3 x4 xo5).1)

/-- What the output's buffer holds after each point: set at even points, added to at odd ones. -/
def outsAt1 (c : Dev nD) : (n : ℕ) → n < cfg1.N → Vec F S256x1024 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 2 = 0 then
      if h1 : (n + 1) % 2 = 1 then
        False.elim (by have hN : n + 1 < 16 := lt_of_lt_of_eq hn (show cfg1.N = 16 from N_1); omega)
      else
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 2 = 1 then
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
      else
        False.elim (by have hN : n + 1 < 16 := lt_of_lt_of_eq hn (show cfg1.N = 16 from N_1); omega)

/-- The output's buffer after an even point. -/
theorem outsAt1_A (c : Dev nD) (t : Fin cfg1.N) (h0 : t.val % 2 = 0) (h1 : ¬t.val % 2 = 1) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

/-- The output's buffer after an odd point. -/
theorem outsAt1_B (c : Dev nD) (t : Fin cfg1.N) (h0 : ¬t.val % 2 = 0) (h1 : t.val % 2 = 1) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The proof data of call 1: its arrays at entry, and what each buffer holds after the body at each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt)
  Φ _ := Pipeline.ΦA spec1 c
  q _ := fullShare
  owed _ := 0

/-- The arrays of the proof data are the contents at the entry of call 1. -/
theorem A_eq1 (c : Dev nD) (w : Fin cfg1.W) : (dat1 V c).A w = V c (Pipeline.arrRef spec1 w) := by
  dsimp only [dat1]

/-- What window 0 of call 1 holds after the body. -/
theorem after1_0 (c : Dev nD) (t : Fin cfg1.N) : (dat1 V c).after 0 t = iblk1 V c 0 t := by dsimp only [dat1]
/-- What window 1 of call 1 holds after the body. -/
theorem after1_1 (c : Dev nD) (t : Fin cfg1.N) : (dat1 V c).after 1 t = iblk1 V c 1 t := by dsimp only [dat1]
/-- What window 2 of call 1 holds after the body. -/
theorem after1_2 (c : Dev nD) (t : Fin cfg1.N) : (dat1 V c).after 2 t = iblk1 V c 2 t := by dsimp only [dat1]
/-- What window 3 of call 1 holds after the body. -/
theorem after1_3 (c : Dev nD) (t : Fin cfg1.N) : (dat1 V c).after 3 t = iblk1 V c 3 t := by dsimp only [dat1]
/-- What window 4 of call 1 holds after the body. -/
theorem after1_4 (c : Dev nD) (t : Fin cfg1.N) : (dat1 V c).after 4 t = iblk1 V c 4 t := by dsimp only [dat1]
/-- What window 5 of call 1 holds after the body. -/
theorem after1_5 (c : Dev nD) (t : Fin cfg1.N) : (dat1 V c).after 5 t = (outsAt1 V c t.val t.isLt) := by dsimp only [dat1]

/-- Input window 0 of call 1 holds its block before the body. -/
theorem before1_0 (c : Dev nD) (t : Fin cfg1.N) (d) : (dat1 V c).before 0 t d = iblk1 V c 0 t :=
  before1_0_of V (dat1 V c) (A_eq1 V c 0) (after1_0 V c) t d
/-- Input window 1 of call 1 holds its block before the body. -/
theorem before1_1 (c : Dev nD) (t : Fin cfg1.N) (d) : (dat1 V c).before 1 t d = iblk1 V c 1 t :=
  before1_1_of V (dat1 V c) (A_eq1 V c 1) (after1_1 V c) t d
/-- Input window 2 of call 1 holds its block before the body. -/
theorem before1_2 (c : Dev nD) (t : Fin cfg1.N) (d) : (dat1 V c).before 2 t d = iblk1 V c 2 t :=
  before1_2_of V (dat1 V c) (A_eq1 V c 2) (after1_2 V c) t d
/-- Input window 3 of call 1 holds its block before the body. -/
theorem before1_3 (c : Dev nD) (t : Fin cfg1.N) (d) : (dat1 V c).before 3 t d = iblk1 V c 3 t :=
  before1_3_of V (dat1 V c) (A_eq1 V c 3) (after1_3 V c) t d
/-- Input window 4 of call 1 holds its block before the body. -/
theorem before1_4 (c : Dev nD) (t : Fin cfg1.N) (d) : (dat1 V c).before 4 t d = iblk1 V c 4 t :=
  before1_4_of V (dat1 V c) (A_eq1 V c 4) (after1_4 V c) t d

/-- No point leaves the output idle, so nothing needs to be carried over. -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 16 := lt_of_lt_of_eq t.isLt (show cfg1.N = 16 from N_1)
  rw [after1_5, after1_5]
  by_cases h0 : t.val % 2 = 0
  · by_cases h1 : t.val % 2 = 1
    · exfalso; omega
    · rw [liveAt1_5_A t ((hcond1_0 t).mpr h0) (fun h => h1 ((hcond1_1 t).mp h))] at hi
      exact absurd hi Bool.false_ne_true
  · by_cases h1 : t.val % 2 = 1
    · rw [liveAt1_5_B t (fun h => h0 ((hcond1_0 t).mp h)) ((hcond1_1 t).mpr h1)] at hi
      exact absurd hi Bool.false_ne_true
    · exfalso; omega

/-- At the second point of a row of the grid the output's buffer holds what the first left there. -/
theorem before1_5_B (c : Dev nD) (t : Fin cfg1.N) (h0 : ¬t.val % 2 = 0) (h1 : t.val % 2 = 1) (d) :
    (dat1 V c).before 5 t d = (outsAt1 V c (t.val - 1) (Nat.lt_of_le_of_lt (Nat.sub_le _ _) t.isLt)) := by
  rw [Dat.before_out_traj _ 5 rfl (fun _ _ => rfl) (hcarry1_5 V c) t.val t rfl d,
    if_neg (by rw [notFresh1_5_B t (fun h => h0 ((hcond1_0 t).mp h)) ((hcond1_1 t).mpr h1)]; exact Bool.false_ne_true)]
  dsimp only [dat1]

/-- What the body of call 1 is entered with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What the body of call 1 returns at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 800000 in

/-- The body of call 1 at any point leaves what the proof data says. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  have hN : t.val < 16 := lt_of_lt_of_eq t.isLt (show cfg1.N = 16 from N_1)
  by_cases h0 : t.val % 2 = 0
  · by_cases h1 : t.val % 2 = 1
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h))], after1_5]
      rw [outsAt1_A V c t h0 h1]
      unfold out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _)
  · by_cases h1 : t.val % 2 = 1
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
      rw [outsAt1_B V c t h0 h1]
      simp only [before1_5_B V c t h0 h1]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)
    · exfalso; omega

/-- The body that call 1 runs at point `t`. -/
theorem defs₀_row1 (t : Fin cfg1.N) :
    defs₀ (F := F) .tc cfg1.body (cfg1.bodyArgs t (cfg1.slots t)) = bodyAt1 t := by
  unfold defs₀; rw [Defs.onTc_tc]

/-- The body's obligation of call 1, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Att

end
-- ==== Proof.KernelIdeal.Run.lean ====
/- The whole program: host operations, projection call, attention call and the last reshape, run one after the other. -/
module

public import proofs.«01_k».proof.Proof.KernelIdeal.Projection
public import proofs.«01_k».proof.Proof.KernelIdeal.Attention
public import Idealize.ShloMosaic.Lib.Pipeline.RegionsLoop
public import Idealize.ShloMosaic.Lib.Pipeline.FrameSuffix

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8]

/-- No operation of this host stretch allocates a buffer. -/
theorem hostOps0_fresh : (hostOps0 : List (HloOp τ sig (Elt F))).Forall fun op => op.fresh = ∅ := by
  simp only [List.Forall]; repeat' constructor

/-- The references this host stretch writes, in order. -/
abbrev hostOps0_W : List (Ref sig .tc) := [main_v0, main_v1, main_v2, main_cst, main_v3, main_v4, main_v5, main_cst_0, main_v6, main_v7, main_v8, main_v9, main_v10, main_v11, main_v12, main_v13]
/-- Each operation of the stretch writes only those. -/
theorem hostOps0_writes : (hostOps0 : List (HloOp τ sig (Elt F))).Forall fun op => op.writes ⊆ (hostOps0_W.map (Proc.devRef (τ := τ) .tc)).toFinset :=
  StableHlo.forall_writes_sub_of_map rfl

/-- The stretch writes no argument. -/
theorem hostOps0_args : ∀ a ∈ argRefs, a ∉ hostOps0_W := ListAll.forall_mem_of_all_decide (by decide +kernel)

/-- No operation of this host stretch allocates a buffer. -/
theorem hostOps2_fresh : (hostOps2 : List (HloOp τ sig (Elt F))).Forall fun op => op.fresh = ∅ := by
  simp only [List.Forall]; repeat' constructor

/-- The references this host stretch writes, in order. -/
abbrev hostOps2_W : List (Ref sig .tc) := [main_v16]
/-- Each operation of the stretch writes only those. -/
theorem hostOps2_writes : (hostOps2 : List (HloOp τ sig (Elt F))).Forall fun op => op.writes ⊆ (hostOps2_W.map (Proc.devRef (τ := τ) .tc)).toFinset :=
  StableHlo.forall_writes_sub_of_map rfl

/-- The stretch writes no argument. -/
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
/-- The arguments are as launched at this boundary. -/
theorem W0_args (c : Dev nD) : ∀ a ∈ argRefs, W0 m ρ c (Proc.devRef .tc a) = m ((c : Thread nD τ).loc a) := fun _ _ => rfl

/-- The buffers after the first host stretch. -/
abbrev W1 : Dev nD → Valuation τ sig (Elt F) := fun c => StableHlo.after hostOps0 (W0 m ρ c)

/-- A buffer this step does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at this boundary. -/
theorem W1_args (c : Dev nD) : ∀ a ∈ argRefs, W1 m ρ c (Proc.devRef .tc a) = m ((c : Thread nD τ).loc a) :=
  fun a ha => (W1_of m ρ c a (hostOps0_args a ha)).trans (W0_args m ρ c a ha)

/-- The same contents, by TensorCore reference. -/
abbrev V1 : (c : Dev nD) → (b : Ref sig .tc) → Buf (Elt F) ((c : Thread nD τ).loc b) := fun c b => W1 m ρ c b

/-- The buffers after the projection call. -/
def W2 (c : Dev nD) : Valuation τ sig (Elt F) :=
  Pipeline.withArrays spec0 c (W1 m ρ c) fun w => (dat0 (V1 m ρ) c).arrAt w cfg0.N
/-- An array of the call holds what its pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no array of the call is untouched. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- A buffer this step does not write keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

/-- Every argument among the arrays of call 0 is an input. -/
theorem argsIn0 : ∀ a ∈ argRefs, ∀ w : Fin cfg0.W, Pipeline.arrRef spec0 w = a → (cfg0.win w).isOut = false :=
  ListAll.forall_mem_of_all_decide (by decide +kernel)
/-- The arguments are as launched at this boundary. -/
theorem W2_args (c : Dev nD) : ∀ a ∈ argRefs, W2 m ρ c (Proc.devRef .tc a) = m ((c : Thread nD τ).loc a) :=
  fun a ha => (W2_of m ρ c a (argsIn0 a ha)).trans (W1_args m ρ c a ha)

/-- The same contents, by TensorCore reference. -/
abbrev V2 : (c : Dev nD) → (b : Ref sig .tc) → Buf (Elt F) ((c : Thread nD τ).loc b) := fun c b => W2 m ρ c b

/-- The arrays at the exit of call 0. -/
theorem hF0 (c : Dev nD) (w : Fin cfg0.W) : (dat0 (V1 m ρ) c).arrAt w cfg0.N = V2 m ρ c (Pipeline.arrRef spec0 w) :=
  (W2_arr m ρ c w).symm
/-- The other buffers at the exit of call 0. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the attention call. -/
def W3 (c : Dev nD) : Valuation τ sig (Elt F) :=
  Pipeline.withArrays spec1 c (W2 m ρ c) fun w => (dat1 (V2 m ρ) c).arrAt w cfg1.N
/-- An array of the call holds what its pipeline leaves. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is no array of the call is untouched. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- A buffer this step does not write keeps its contents. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩

/-- Every argument among the arrays of call 1 is an input. -/
theorem argsIn1 : ∀ a ∈ argRefs, ∀ w : Fin cfg1.W, Pipeline.arrRef spec1 w = a → (cfg1.win w).isOut = false :=
  ListAll.forall_mem_of_all_decide (by decide +kernel)
/-- The arguments are as launched at this boundary. -/
theorem W3_args (c : Dev nD) : ∀ a ∈ argRefs, W3 m ρ c (Proc.devRef .tc a) = m ((c : Thread nD τ).loc a) :=
  fun a ha => (W3_of m ρ c a (argsIn1 a ha)).trans (W2_args m ρ c a ha)

/-- The same contents, by TensorCore reference. -/
abbrev V3 : (c : Dev nD) → (b : Ref sig .tc) → Buf (Elt F) ((c : Thread nD τ).loc b) := fun c b => W3 m ρ c b

/-- The arrays at the exit of call 1. -/
theorem hF1 (c : Dev nD) (w : Fin cfg1.W) : (dat1 (V2 m ρ) c).arrAt w cfg1.N = V3 m ρ c (Pipeline.arrRef spec1 w) :=
  (W3_arr m ρ c w).symm
/-- The other buffers at the exit of call 1. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers after the last host stretch. -/
abbrev W4 : Dev nD → Valuation τ sig (Elt F) := fun c => StableHlo.after hostOps2 (W3 m ρ c)

/-- A buffer this step does not write keeps its contents. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The arguments are as launched at this boundary. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-- Argument 0 ends as launched. -/
theorem W4_main_arg0 (c : Dev nD) : W4 m ρ c (Proc.devRef .tc main_arg0) = m ((c : Thread nD τ).loc main_arg0) :=
  W4_args m ρ c main_arg0 (by decide)
/-- Argument 1 ends as launched. -/
theorem W4_main_arg1 (c : Dev nD) : W4 m ρ c (Proc.devRef .tc main_arg1) = m ((c : Thread nD τ).loc main_arg1) :=
  W4_args m ρ c main_arg1 (by decide)
/-- Argument 2 ends as launched. -/
theorem W4_main_arg2 (c : Dev nD) : W4 m ρ c (Proc.devRef .tc main_arg2) = m ((c : Thread nD τ).loc main_arg2) :=
  W4_args m ρ c main_arg2 (by decide)
/-- Argument 3 ends as launched. -/
theorem W4_main_arg3 (c : Dev nD) : W4 m ρ c (Proc.devRef .tc main_arg3) = m ((c : Thread nD τ).loc main_arg3) :=
  W4_args m ρ c main_arg3 (by decide)
/-- Argument 4 ends as launched. -/
theorem W4_main_arg4 (c : Dev nD) : W4 m ρ c (Proc.devRef .tc main_arg4) = m ((c : Thread nD τ).loc main_arg4) :=
  W4_args m ρ c main_arg4 (by decide)
/-- Argument 5 ends as launched. -/
theorem W4_main_arg5 (c : Dev nD) : W4 m ρ c (Proc.devRef .tc main_arg5) = m ((c : Thread nD τ).loc main_arg5) :=
  W4_args m ρ c main_arg5 (by decide)
/-- Argument 6 ends as launched. -/
theorem W4_main_arg6 (c : Dev nD) : W4 m ρ c (Proc.devRef .tc main_arg6) = m ((c : Thread nD τ).loc main_arg6) :=
  W4_args m ρ c main_arg6 (by decide)
/-- Argument 7 ends as launched. -/
theorem W4_main_arg7 (c : Dev nD) : W4 m ρ c (Proc.devRef .tc main_arg7) = m ((c : Thread nD τ).loc main_arg7) :=
  W4_args m ρ c main_arg7 (by decide)
/-- Argument 8 ends as launched. -/
theorem W4_main_arg8 (c : Dev nD) : W4 m ρ c (Proc.devRef .tc main_arg8) = m ((c : Thread nD τ).loc main_arg8) :=
  W4_args m ρ c main_arg8 (by decide)

/-- No pipeline has a prefetched table. -/
abbrev adm : (p : Fin 2) → (pcfgs (F := F) p).Adm := fun p => (cfgs p).toPCfg_adm

/-- The proof data of both pipelines, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No variants. -/
abbrev 𝒱₀ : Variants := Variants.none

/-- No core owes another anything. -/
abbrev L : GSem nD τ sig → Finset Unit := fun _ => ∅
/-- No level is assigned. -/
abbrev lv : GSem nD τ sig → Unit → ℕ := fun _ _ => 0

/-- What rides beside the buffers: the generator register, and nothing owed. -/
abbrev R (c : Dev nD) : sProp 𝕄 := iprop((∃ r, prngReg c r) ∗ ∃ W, owes (c : Thread nD τ) (0 : CellTallies nD τ sig Unit) W)

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state: the buffers at the last boundary's contents. -/
abbrev Tₙ (c : Dev nD) : sProp 𝕄 := iprop(StableHlo.held (c : Thread nD τ) (Pipeline.ucRefs τ sig) (W4 m ρ c) ∗ ∃ r, prngReg c r)

set_option backward.isDefEq.respectTransparency.types false in

/-- Call 0 as a segment between two boundaries. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- Call 1 as a segment between two boundaries. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The four segments of the program. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

/-- The program is the run of its segments. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide

set_option backward.isDefEq.respectTransparency.types false in
/-- Every run ends with every unscoped buffer at the last boundary's contents and all semaphore counters at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The program runs to its end and leaves its arguments as launched, all semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h' => let h := h'.1; ⟨fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩, h'.2⟩) (run m ρ)

/-- The program's result is the last boundary's contents of the result buffer, its arguments unchanged. -/
theorem run_value : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h' c => let h := h'.1;
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩) (run m ρ)

end Cert.KernelIdeal.Att

end
-- ==== Proof.Frames.lean ====
/- The frames of the three programs: each runs to its end, leaves its arguments unchanged and every semaphore at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run

@[expose] public section

noncomputable section

namespace Cert.Frames

open Idealize.ShloMosaic Idealize.SL.Sem

/-- The kernel's frame. -/
theorem kernel : Cert.quiescent_Kernel (hKernel := Cert.Kernel.Gen.facts) := fun m g _ => Cert.Kernel.Att.frame m g

/-- The idealized kernel's frame. -/
theorem kernelIdeal : Cert.quiescent_KernelIdeal (hKernelIdeal := Cert.KernelIdeal.Gen.facts) :=
  fun m g _ => Cert.KernelIdeal.Att.frame m g

/-- The idealized reference's frame: its run changes no argument and it declares no semaphore. -/
theorem referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Precondition.lean ====
/- The side conditions the operations of the precondition take. -/
module

public import proofs.«01_k».proof.Pre_clear_top

@[expose] public section

noncomputable section

namespace Cert.Pre_clear_top

open Idealize.ShloMosaic

/-- Every side condition of the precondition holds. -/
instance facts : Facts where
  transposes_S1024x1024_S1024x1024_1_0 := by decide
  bcast_S_S1x2048x1024 := by decide
  shapeCasts_S1x2048x1024_S1x2048x16x64 := by decide
  transposes_S1x2048x16x64_S1x16x2048x64_0_2_1_3 := by decide
  reducesTo_S1x16x2048x2048_S1x16x2048_d3 := by decide
  h_S_ := by decide
  bcast_S_S1x16x2048 := by decide
  shapeCasts_S1x2048x128_S1x2048x16x8 := by decide
  bcast_S_S1x2048x16x8 := by decide
  sliceFits_S1x2048x16x8_S1x2048x16x3 := by decide
  slices_S1x2048x16x3_S1x2048x16x1_0_0_0_1 := by decide
  slices_S1x2048x16x3_S1x2048x16x1_0_0_0_2 := by decide
  transposes_S1x16x2048_S1x2048x16_0_2_1 := by decide
  shapeCasts_S1x2048x16_S1x2048x16x1 := by decide
  dot_S1x2048x1024_S1024x1024_S1x2048x1024_2_0_01_1_n_n_wf := by decide
  dot_S1x16x2048x64_S1x16x2048x64_S1x16x2048x2048_3_3_2_2_01_01_wf := by decide
  dot_S1x2048x1024_S128x1024_S1x2048x128_2_1_01_0_n_n_wf := by decide

end Cert.Pre_clear_top

end
-- ==== Proof.Gate.lean ====
/- The two greatest of eight gates. Two ways to keep them and drop the rest are compared: the masked maximum, which finds
   the greatest, hides it, finds the greatest of the rest and keeps what is at least as large; and the ranking of the
   eight by size, cut after two. They agree when the second greatest is larger than the third. -/
module

public import Idealize.ShloMosaic.Lib.Pointwise
public import Idealize.ShloMosaic.Lib.IdealHost
public import Idealize.ShloMosaic.Lib.SortFacts

@[expose] public section

noncomputable section

namespace Cert.Gate

open Idealize.ShloMosaic Idealize.ShloMosaic.Pointwise

/-- The f32 word of minus infinity is read as the least extended real. -/
theorem negInf_eq : Ideal.ofBits .f32 0xFF800000#32 = (⊥ : EReal) := by simp [Ideal.ofBits, Ideal.ieee]

/-- The f32 word of plus infinity is read as the greatest extended real. -/
theorem posInf_eq : Ideal.ofBits .f32 0x7F800000#32 = (⊤ : EReal) := by simp [Ideal.ofBits, Ideal.ieee]

/-- The f32 word of minus one is read as a number below zero. -/
theorem negOne_lt : Ideal.ofBits .f32 0xBF800000#32 < (0 : EReal) := by
  have h : Ideal.ofBits .f32 0xBF800000#32 = -1 := IdealRules.sign_bit.ideal_negOnePat .f32
  rw [h]
  exact EReal.neg_lt_zero.mpr one_pos

/-- The greatest of eight, as a fold from minus infinity. -/
def peak (s : Fin 8 → EReal) : EReal := Finset.univ.fold max (Ideal.ofBits .f32 0xFF800000#32) s

/-- The first position at which the greatest of eight stands, as a word. -/
def firstPeak (s : Fin 8 → EReal) : BitVec 32 :=
  Finset.univ.fold IntOp.minsi (2147483647#32) (fun x : Fin 8 => if peak s ≤ s x then BitVec.ofNat 32 x.val else 8#32)

/-- The eight with the first of the greatest replaced by minus one. -/
def masked (s : Fin 8 → EReal) (x : Fin 8) : EReal :=
  Scalar.select (IntOp.cmpi .eq (BitVec.ofNat 32 x.val) (firstPeak s)) (Ideal.ofBits .f32 0xBF800000#32) (s x)

/-- The masked-maximum gate: an entry is kept if it is at least the greatest of the masked eight, else zero. -/
def maskedGate (s : Fin 8 → EReal) (e : Fin 8) : EReal := if peak (masked s) ≤ s e then s e else 0

/-- The greatest is at most a bound exactly if all eight are. -/
theorem peak_le (s : Fin 8 → EReal) (c : EReal) : peak s ≤ c ↔ ∀ x, s x ≤ c := by
  unfold peak
  rw [Finset.fold_max_le, negInf_eq]
  simp

/-- The first position of the greatest is one of the eight, and the greatest stands there. -/
theorem firstPeak_spec (s : Fin 8 → EReal) : ∃ i : Fin 8, firstPeak s = BitVec.ofNat 32 i.val ∧ ∀ x, s x ≤ s i := by
  have key : ∀ p : Fin 8 → Bool, (∃ y, p y = true) → ∃ i, p i = true ∧
      Finset.univ.fold IntOp.minsi (2147483647#32) (fun x : Fin 8 => if p x = true then BitVec.ofNat 32 x.val else 8#32)
        = BitVec.ofNat 32 i.val := by decide +kernel
  obtain ⟨y, -, hy⟩ := Finset.exists_max_image Finset.univ s ⟨0, Finset.mem_univ _⟩
  obtain ⟨i, hi, he⟩ := key (fun x => decide (peak s ≤ s x))
    ⟨y, decide_eq_true ((peak_le s _).mpr fun x => hy x (Finset.mem_univ _))⟩
  refine ⟨i, ?_, (peak_le s _).mp (of_decide_eq_true hi)⟩
  rw [← he]
  unfold firstPeak
  refine Finset.fold_congr fun x _ => ?_
  simp only [decide_eq_true_eq]

/-- Where `a` and `b` are the two greatest of eight nonnegative entries, the masked-maximum gate keeps these two. -/
theorem maskedGate_eq (s : Fin 8 → EReal) (hs : ∀ e, 0 ≤ s e) (a b : Fin 8) (hab : a ≠ b) (h1 : s b ≤ s a)
    (h2 : ∀ c, c ≠ a → c ≠ b → s c < s b) (e : Fin 8) :
    maskedGate s e = if e = a ∨ e = b then s e else 0 := by
  obtain ⟨i, hi, hmax⟩ := firstPeak_spec s
  have hm : ∀ x, masked s x = if x = i then Ideal.ofBits .f32 0xBF800000#32 else s x := by
    intro x
    have hw : ∀ x i : Fin 8, IntOp.cmpi .eq (BitVec.ofNat 32 x.val) (BitVec.ofNat 32 i.val) = if x = i then 1 else 0 := by
      decide +kernel
    unfold masked Scalar.select
    rw [hi, hw]
    by_cases hx : x = i <;> simp [hx]
  have hib : i = a ∨ i = b := by
    by_contra hc
    push Not at hc
    exact absurd (hmax b) (not_le.mpr (h2 i hc.1 hc.2))
  -- the greatest of the masked eight is the entry at the other of the two
  have hpk : ∀ c : EReal, peak (masked s) ≤ c ↔ s b ≤ c := by
    intro c
    rw [peak_le]
    constructor
    · intro h
      rcases hib with rfl | rfl
      · have := h b
        rwa [hm, if_neg hab.symm] at this
      · have := h a
        rw [hm, if_neg hab] at this
        exact h1.trans this
    · intro h x
      rw [hm]
      split_ifs with hx
      · exact (negOne_lt.le.trans (hs b)).trans h
      · refine le_trans ?_ h
        by_cases hxa : x = a
        · subst hxa
          rcases hib with h' | h'
          · exact absurd h'.symm hx
          · rw [← h']; exact hmax _
        · by_cases hxb : x = b
          · rw [hxb]
          · exact (h2 x hxa hxb).le
  unfold maskedGate
  simp only [hpk]
  by_cases hea : e = a
  · rw [if_pos (hea ▸ h1), if_pos (Or.inl hea)]
  · by_cases heb : e = b
    · rw [if_pos (le_of_eq (by rw [heb])), if_pos (Or.inr heb)]
    · rw [if_neg (not_le.mpr (h2 e hea heb)), if_neg (by rintro (h | h); exacts [hea h, heb h])]

/-- The ranking of eight by size: `rank s 0` is a position of the greatest, `rank s 1` of the next, and so on. -/
def rank (s : Fin 8 → EReal) : Fin 8 → Fin 8 := sortedFrom (fun k k' => Ideal.cmp .ogt (s k) (s k') == 1#1)

/-- No position is ranked twice. -/
theorem rank_injective (s : Fin 8 → EReal) : Function.Injective (rank s) := sortedFrom_injective _

/-- Every position is ranked. -/
theorem rank_surjective (s : Fin 8 → EReal) : Function.Surjective (rank s) := sortedFrom_surjective _

/-- A later rank has no larger entry. -/
theorem rank_antitone (s : Fin 8 → EReal) (i j : Fin 8) (h : i < j) : s (rank s j) ≤ s (rank s i) := by
  have hc : ∀ x y : EReal, (Ideal.cmp .ogt x y == 1#1) = decide (y < x) := by
    intro x y
    unfold Ideal.cmp
    by_cases hxy : y < x <;> simp [hxy]
  have := sortedFrom_noInversion (n := 8) (fun k k' => Ideal.cmp .ogt (s k) (s k') == 1#1)
    (fun k k' => Ideal.cmp .ogt (s k) (s k') == 1#1)
    (fun a b hab => by simp only [hc, decide_eq_true_eq, decide_eq_false_iff_not, not_lt] at *; exact hab.le)
    (fun a b hab => hab)
    (fun a b c hab hbc => by simp only [hc, decide_eq_false_iff_not, not_lt] at *; exact hab.trans hbc) i j h
  rw [hc, decide_eq_false_iff_not, not_lt] at this
  exact this

/-- The masked-maximum gate of eight nonnegative entries whose second rank is above its third keeps the entries of the
    first two ranks: it is the sum of the two, each at its own position. -/
theorem maskedGate_eq_rank (s : Fin 8 → EReal) (hs : ∀ e, 0 ≤ s e) (hgap : s (rank s 2) < s (rank s 1)) (e : Fin 8) :
    maskedGate s e = ∑ r : Fin 2, (if e = rank s (r.castLE (by decide)) then 1 else 0) * s (rank s (r.castLE (by decide))) := by
  have hne : rank s 0 ≠ rank s 1 := fun h => absurd (rank_injective s h) (by decide)
  rw [maskedGate_eq s hs (rank s 0) (rank s 1) hne (rank_antitone s 0 1 (by decide)) ?_ e, Fin.sum_univ_two]
  · show _ = (if e = rank s 0 then (1 : EReal) else 0) * s (rank s 0) + (if e = rank s 1 then (1 : EReal) else 0) * s (rank s 1)
    by_cases h0 : e = rank s 0
    · rw [if_pos (Or.inl h0), if_pos h0, if_neg (fun h => hne (h0.symm.trans h)), one_mul, zero_mul, add_zero, h0]
    · by_cases h1 : e = rank s 1
      · rw [if_pos (Or.inr h1), if_neg h0, if_pos h1, one_mul, zero_mul, zero_add, h1]
      · rw [if_neg (by rintro (h | h); exacts [h0 h, h1 h]), if_neg h0, if_neg h1, zero_mul, zero_mul, add_zero]
  · intro c hc0 hc1
    obtain ⟨k, rfl⟩ := rank_surjective s c
    have hk : k = 2 ∨ 2 < k := by
      have h0 : k ≠ 0 := fun h => hc0 (by rw [h])
      have h1 : k ≠ 1 := fun h => hc1 (by rw [h])
      omega
    rcases hk with rfl | hk
    · exact hgap
    · exact lt_of_le_of_lt (rank_antitone s 2 k hk) hgap

end Cert.Gate

end
-- ==== Proof.Equation.lean ====
/- The laws of extended real arithmetic by which the kernel's way of computing agrees with the reference's: a scale taken into a
   sum, and a softmax whose division is done once at the end. -/
module

public import proofs.«01_k».proof.Proof.Gate

@[expose] public section

noncomputable section

namespace Cert.Equation

open Idealize.ShloMosaic

/-- A nonnegative finite factor is taken out of a finite sum, on the right. -/
theorem sum_mul_of_nonneg {ι : Type} (s : Finset ι) (f : ι → EReal) (r : EReal) (h0 : 0 ≤ r) (ht : r ≠ ⊤) :
    (∑ i ∈ s, f i) * r = ∑ i ∈ s, f i * r := by
  classical
  induction s using Finset.induction_on with
  | empty => simp
  | insert a s ha ih =>
    rw [Finset.sum_insert ha, Finset.sum_insert ha, ← ih]
    exact EReal.right_distrib_of_nonneg_of_ne_top h0 ht _ _

/-- The scale of the queries and of the keys is a real number, not below zero. -/
theorem scale_real : ∃ r : ℝ, 0 ≤ r ∧ Ideal.ofBits .f32 0x3EB504F3#32 = (r : EReal) := by
  refine ⟨_, ?_, by simp [Ideal.ofBits, Ideal.ieee]; rfl⟩
  positivity

/-- The scale applied to the weights or to the projection. -/
theorem scaled_sum {n : Nat} (x w : Fin n → EReal) :
    ∑ d, w d * Ideal.ofBits .f32 0x3EB504F3#32 * x d = (∑ d, x d * w d) * Ideal.ofBits .f32 0x3EB504F3#32 := by
  obtain ⟨r, hr, he⟩ := scale_real
  rw [he, sum_mul_of_nonneg _ _ _ (EReal.coe_nonneg.mpr hr) (EReal.coe_ne_top r)]
  refine Finset.sum_congr rfl fun d _ => ?_
  rw [mul_right_comm, mul_comm (w d)]

/-- An exponential is not below zero. -/
theorem exp_nonneg (x : EReal) : 0 ≤ Ideal.exp x := by
  induction x using EReal.rec with
  | bot => exact le_refl (0 : EReal)
  | top => exact le_top
  | coe r => exact EReal.coe_nonneg.mpr (Real.exp_pos r).le

/-- A logistic value is not below zero. -/
theorem logistic_nonneg (x : EReal) : 0 ≤ Ideal.logistic x := by
  have h : (0 : EReal) ≤ 1 + Ideal.exp (-x) := add_nonneg zero_le_one (exp_nonneg _)
  unfold Ideal.logistic Ideal.div
  split_ifs with h1 h2
  · exact le_top
  · exact absurd zero_lt_one h2
  · exact mul_nonneg zero_le_one (EReal.inv_nonneg_of_nonneg h)

/-- The exponential of zero. -/
theorem exp_zero : Ideal.exp 0 = 1 := by
  change ((Real.exp 0 : ℝ) : EReal) = 1
  rw [Real.exp_zero]
  rfl

/-- The sum of the softmax weights is above zero when the greatest score is finite. -/
theorem weights_pos {n : Nat} (x : Fin n → EReal)
    (h : ⊥ < Finset.univ.fold max (Ideal.ofBits .f32 0xFF800000#32) x ∧ Finset.univ.fold max (Ideal.ofBits .f32 0xFF800000#32) x < ⊤) :
    0 < ∑ t, Ideal.exp (x t - Finset.univ.fold max (Ideal.ofBits .f32 0xFF800000#32) x) := by
  obtain ⟨t, ht⟩ : ∃ t, Finset.univ.fold max (Ideal.ofBits .f32 0xFF800000#32) x ≤ x t := by
    have := (Finset.le_fold_max (s := Finset.univ) (f := x) (b := Ideal.ofBits .f32 0xFF800000#32)
      (Finset.univ.fold max (Ideal.ofBits .f32 0xFF800000#32) x)).mp le_rfl
    rcases this with h1 | ⟨t, -, ht⟩
    · rw [Gate.negInf_eq] at h1 h
      exact absurd h.1 (not_lt.mpr h1)
    · exact ⟨t, ht⟩
  have he : x t = Finset.univ.fold max (Ideal.ofBits .f32 0xFF800000#32) x :=
    le_antisymm ((Finset.le_fold_max (s := Finset.univ) (f := x) (b := Ideal.ofBits .f32 0xFF800000#32) (x t)).mpr
      (Or.inr ⟨t, Finset.mem_univ _, le_rfl⟩)) ht
  refine lt_of_lt_of_le ?_ (Finset.single_le_sum (f := fun t => Ideal.exp (x t - Finset.univ.fold max (Ideal.ofBits .f32 0xFF800000#32) x))
    (fun i _ => exp_nonneg _) (Finset.mem_univ t))
  change (0 : EReal) < Ideal.exp (x t - _)
  rw [he, EReal.sub_self h.2.ne h.1.ne', exp_zero]
  exact zero_lt_one

/-- A softmax divided once at the end, or at every weight. -/
theorem softmax_div {n : Nat} (p v : Fin n → EReal) (g Z : EReal) (hZ : 0 < Z) :
    g * Ideal.div 1 Z * ∑ t, v t * p t = g * ∑ t, Ideal.div (p t) Z * v t := by
  have hd : ∀ x : EReal, Ideal.div x Z = x * Z⁻¹ := fun x => if_neg hZ.ne'
  have ht : Z⁻¹ ≠ ⊤ := by
    induction Z using EReal.rec with
    | bot => simp
    | top => simp
    | coe r => rw [← EReal.coe_inv]; exact EReal.coe_ne_top _
  rw [hd, one_mul, mul_assoc, mul_comm Z⁻¹, sum_mul_of_nonneg _ _ _ (EReal.inv_nonneg_of_nonneg hZ.le) ht]
  refine congrArg _ (Finset.sum_congr rfl fun t _ => ?_)
  rw [hd, mul_assoc, mul_comm]

/-- A softmax divided once at the end, or at every weight, with equal weights, values and gates. -/
theorem softmax_congr {n : Nat} (p p' v v' : Fin n → EReal) (g g' : EReal) (hp : ∀ t, p t = p' t) (hv : ∀ t, v t = v' t) (hg : g = g')
    (hZ : 0 < ∑ t, p' t) : g * Ideal.div 1 (∑ t, p t) * ∑ t, v t * p t = g' * ∑ t, Ideal.div (p' t) (∑ t, p' t) * v' t := by
  obtain rfl : p = p' := funext hp
  obtain rfl : v = v' := funext hv
  obtain rfl := hg
  exact softmax_div p v g _ hZ

end Cert.Equation

end
-- ==== Proof.Ranking.lean ====
/- The first ranks of the last axis of a [1, 2048, 16, 8] array: what `top_k` returns at an index. -/
module

public import proofs.«01_k».proof.Proof.Gate

@[expose] public section

noncomputable section

namespace Cert.Gate

open Idealize.ShloMosaic Idealize.ShloMosaic.Pointwise

variable (n : Nat) (hn : n ≤ 8) (x : (⟨4, ![1, 2048, 16, 8]⟩ : Shape).Idx → Ideal .f32)
  (h : (⟨4, ![1, 2048, 16, 8]⟩ : Shape).Slices (fun _ => 0) ⟨4, ![1, 2048, 16, n]⟩)
  (s : Fin 2048) (g : Fin 16) (r : Fin n)

/-- Replacing the last coordinate of an index. -/
theorem along_last (e' e : Fin 8) : Shape.Idx.along (s := ⟨4, ![1, 2048, 16, 8]⟩) (ix4 (0 : Fin 1) s g e') 3 e
    = ix4 (0 : Fin 1) s g e := by
  funext a
  match a with
  | ⟨0, _⟩ => rfl
  | ⟨1, _⟩ => rfl
  | ⟨2, _⟩ => rfl
  | ⟨3, _⟩ => rfl

/-- The position in the sorted order that stands at an index is the rank of the group of eight. -/
theorem sortedFrom_last (e' : Fin 8) :
    sortedFrom (n := 8) (fun k k' => Ideal.cmp .ogt (x (Shape.Idx.along (s := ⟨4, ![1, 2048, 16, 8]⟩) (ix4 (0 : Fin 1) s g e') 3 k))
      (x (Shape.Idx.along (s := ⟨4, ![1, 2048, 16, 8]⟩) (ix4 (0 : Fin 1) s g e') 3 k')) == 1#1) e'
      = rank (fun e => x (ix4 0 s g e)) e' := by
  simp only [along_last]
  rfl

/-- A slice from the origin read at an index of the last axis. -/
theorem slice_last {α : Type} (y : (⟨4, ![1, 2048, 16, 8]⟩ : Shape).Idx → α) :
    extractStridedSlice ⟨4, ![1, 2048, 16, n]⟩ (fun _ => 0) y h (ix4 0 s g r) = y (ix4 (0 : Fin 1) s g (r.castLE hn)) := by
  unfold extractStridedSlice
  refine congrArg y ?_
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

/-- The sorted values read at an index. -/
theorem sort2_value (y : IVec ⟨4, ![1, 2048, 16, 8]⟩ 32) (e' : Fin 8) :
    (Host.sort2 ⟨4, ![1, 2048, 16, 8]⟩ 3 (fun l r => Ideal.cmp .ogt l.1 r.1) x y).1 (ix4 (0 : Fin 1) s g e')
      = x (ix4 0 s g (rank (fun e => x (ix4 0 s g e)) e')) := by
  unfold Host.sort2
  rw [dif_pos (show 3 < 4 by decide)]
  show x (Shape.Idx.along (s := ⟨4, ![1, 2048, 16, 8]⟩) (ix4 (0 : Fin 1) s g e') 3 (sortedFrom (n := 8) _ e')) = _
  rw [along_last]
  exact congrArg (fun k => x (ix4 0 s g k)) (sortedFrom_last x s g e')

/-- The carried words read at an index. -/
theorem sort2_carried (y : IVec ⟨4, ![1, 2048, 16, 8]⟩ 32) (e' : Fin 8) :
    (Host.sort2 ⟨4, ![1, 2048, 16, 8]⟩ 3 (fun l r => Ideal.cmp .ogt l.1 r.1) x y).2 (ix4 (0 : Fin 1) s g e')
      = y (ix4 0 s g (rank (fun e => x (ix4 0 s g e)) e')) := by
  unfold Host.sort2
  rw [dif_pos (show 3 < 4 by decide)]
  show y (Shape.Idx.along (s := ⟨4, ![1, 2048, 16, 8]⟩) (ix4 (0 : Fin 1) s g e') 3 (sortedFrom (n := 8) _ e')) = _
  rw [along_last]
  exact congrArg (fun k => y (ix4 0 s g k)) (sortedFrom_last x s g e')

/-- The value of rank `r` in a group of eight. -/
theorem topK_value :
    (Host.topK ⟨4, ![1, 2048, 16, n]⟩ 3 (FloatOps.cmpfTotal .gt) x h).1 (ix4 0 s g r)
      = x (ix4 0 s g (rank (fun e => x (ix4 0 s g e)) (r.castLE hn))) := by
  unfold Host.topK
  dsimp only
  refine (slice_last n hn h s g r _).trans ?_
  exact sort2_value x s g _ _

/-- The position of rank `r` in a group of eight, as a word. -/
theorem topK_index :
    (Host.topK ⟨4, ![1, 2048, 16, n]⟩ 3 (FloatOps.cmpfTotal .gt) x h).2 (ix4 0 s g r)
      = BitVec.ofNat 32 (rank (fun e => x (ix4 0 s g e)) (r.castLE hn)).val := by
  unfold Host.topK
  dsimp only
  refine (slice_last n hn h s g r _).trans ?_
  refine (sort2_carried x s g _ _).trans ?_
  rw [dif_pos (show 3 < 4 by decide)]
  rfl

end Cert.Gate

end
-- ==== Proof.ReferenceIdeal.Stages.lean ====
/- What the reference computes, stage by stage, at an index. -/
module

public import proofs.«01_k».proof.Proof.Gen.ReferenceIdeal.Read
public import proofs.«01_k».proof.Proof.Ranking

@[expose] public section

noncomputable section

namespace Cert.ReferenceIdeal.Read

open Idealize.ShloMosaic Idealize.ShloMosaic.Pointwise

variable (x0 x1 x2 : (⟨S1x2048x1024, .f32⟩ : BufTy).Contents (Elt Ideal)) (x3 x4 : (⟨S1024x1024, .f32⟩ : BufTy).Contents (Elt Ideal))
  (x5 : (⟨S128x1024x64, .f32⟩ : BufTy).Contents (Elt Ideal)) (x6 : (⟨S128x64x1024, .f32⟩ : BufTy).Contents (Elt Ideal))
  (x7 x8 : (⟨S128x1024, .f32⟩ : BufTy).Contents (Elt Ideal))

/-- The scaled query projection. -/
theorem query_at (s : Fin 2048) (c : Fin 1024) : val_main_v3 (F := Ideal) x0 x3 (ix3 0 s c)
    = (∑ d : Fin 1024, x0 (ix3 0 s d) * x3 (ix2 c d)) * Ideal.ofBits .f32 0x3EB504F3#32 := by
  pointwise [val_main_v3, val_main_v1, val_main_v0, val_main_v2, val_main_cst]

/-- The scaled key projection. -/
theorem key_at (s : Fin 2048) (c : Fin 1024) : val_main_v7 (F := Ideal) x1 x4 (ix3 0 s c)
    = (∑ d : Fin 1024, x1 (ix3 0 s d) * x4 (ix2 c d)) * Ideal.ofBits .f32 0x3EB504F3#32 := by
  pointwise [val_main_v7, val_main_v5, val_main_v4, val_main_v6, val_main_cst_0]

/-- The sigmoid of the value selection. -/
theorem sigV_at (s : Fin 2048) (h : Fin 16) (e : Fin 8) : val_main_v15 (F := Ideal) x1 x7 (ix4 0 s h e)
    = Ideal.logistic (∑ d : Fin 1024, x1 (ix3 0 s d) * x7 (ix2 ⟨h.val * 8 + e.val, by omega⟩ d)) := by
  unfold Ideal.logistic
  pointwise [val_main_v15, val_main_v14, val_main_v13, val_main_v12, val_main_v11, val_main_v10, val_main_v9, val_main_v8,
    val_main_cst_1, val_main_cst_2]

/-- The sigmoid of the output selection. -/
theorem sigO_at (s : Fin 2048) (h : Fin 16) (e : Fin 8) : val_main_v28 (F := Ideal) x0 x8 (ix4 0 s h e)
    = Ideal.logistic (∑ d : Fin 1024, x0 (ix3 0 s d) * x8 (ix2 ⟨h.val * 8 + e.val, by omega⟩ d)) := by
  unfold Ideal.logistic
  pointwise [val_main_v28, val_main_v27, val_main_v26, val_main_v25, val_main_v24, val_main_v23, val_main_v22, val_main_v21,
    val_main_cst_4, val_main_cst_5]

/-- A comparison of two positions for equality, as a number. -/
theorem oneHot_eq (a e : Fin 8) :
    FloatOps.uitofp (F := Ideal) .f32 (IntOp.cmpi .eq (BitVec.ofNat 32 a.val) (BitVec.ofNat 32 e.val))
      = if e = a then (1 : EReal) else 0 := by
  have hw : ∀ a e : Fin 8, (IntOp.cmpi .eq (BitVec.ofNat 32 a.val) (BitVec.ofNat 32 e.val)).toNat = if e = a then 1 else 0 := by
    decide +kernel
  show (((IntOp.cmpi .eq (BitVec.ofNat 32 a.val) (BitVec.ofNat 32 e.val)).toNat : ℝ) : EReal) = _
  rw [hw]
  split_ifs <;> simp

/-- The value gate: the two first ranks, each at its own position. -/
theorem gateV_at (s : Fin 2048) (h : Fin 16) (e : Fin 8) : val_main_v20 (F := Ideal) x1 x7 (ix4 0 s h e)
    = ∑ r : Fin 2, (if e = Gate.rank (fun e => val_main_v15 (F := Ideal) x1 x7 (ix4 0 s h e)) (r.castLE (by decide)) then 1 else 0)
        * val_main_v15 (F := Ideal) x1 x7 (ix4 0 s h
            (Gate.rank (fun e => val_main_v15 (F := Ideal) x1 x7 (ix4 0 s h e)) (r.castLE (by decide)))) := by
  have hv : ∀ r : Fin 2, val_main_values (F := Ideal) x1 x7 (ix4 0 s h r) = _ :=
    fun r => Gate.topK_value 2 (by decide) (val_main_v15 (F := Ideal) x1 x7) _ s h r
  have hi : ∀ r : Fin 2, val_main_indices (F := Ideal) x1 x7 (ix4 0 s h r) = _ :=
    fun r => Gate.topK_index 2 (by decide) (val_main_v15 (F := Ideal) x1 x7) _ s h r
  have hg : val_main_v20 (F := Ideal) x1 x7 (ix4 0 s h e) = ∑ r : Fin 2,
      FloatOps.uitofp (F := Ideal) .f32 (IntOp.cmpi .eq (val_main_indices (F := Ideal) x1 x7 (ix4 0 s h r)) (BitVec.ofNat 32 e.val))
        * val_main_values (F := Ideal) x1 x7 (ix4 0 s h r) := by
    unfold val_main_v20 val_main_v19 val_main_v18 val_main_v17 val_main_v16 val_main_call0_v4 val_main_call0_v3
      val_main_call0_v2 val_main_call0_v1 val_main_call0_v0 val_main_cst_3
    generalize val_main_indices (F := Ideal) x1 x7 = ii
    generalize val_main_values (F := Ideal) x1 x7 = vv
    pointwise []
  rw [hg]
  refine Finset.sum_congr rfl fun r _ => ?_
  rw [hv, hi, oneHot_eq]

/-- The output gate: the two first ranks, each at its own position. -/
theorem gateO_at (s : Fin 2048) (h : Fin 16) (e : Fin 8) : val_main_v33 (F := Ideal) x0 x8 (ix4 0 s h e)
    = ∑ r : Fin 2, (if e = Gate.rank (fun e => val_main_v28 (F := Ideal) x0 x8 (ix4 0 s h e)) (r.castLE (by decide)) then 1 else 0)
        * val_main_v28 (F := Ideal) x0 x8 (ix4 0 s h
            (Gate.rank (fun e => val_main_v28 (F := Ideal) x0 x8 (ix4 0 s h e)) (r.castLE (by decide)))) := by
  have hv : ∀ r : Fin 2, val_main_values_6 (F := Ideal) x0 x8 (ix4 0 s h r) = _ :=
    fun r => Gate.topK_value 2 (by decide) (val_main_v28 (F := Ideal) x0 x8) _ s h r
  have hi : ∀ r : Fin 2, val_main_indices_7 (F := Ideal) x0 x8 (ix4 0 s h r) = _ :=
    fun r => Gate.topK_index 2 (by decide) (val_main_v28 (F := Ideal) x0 x8) _ s h r
  have hg : val_main_v33 (F := Ideal) x0 x8 (ix4 0 s h e) = ∑ r : Fin 2,
      FloatOps.uitofp (F := Ideal) .f32 (IntOp.cmpi .eq (val_main_indices_7 (F := Ideal) x0 x8 (ix4 0 s h r)) (BitVec.ofNat 32 e.val))
        * val_main_values_6 (F := Ideal) x0 x8 (ix4 0 s h r) := by
    unfold val_main_v33 val_main_v32 val_main_v31 val_main_v30 val_main_v29 val_main_call1_v4 val_main_call1_v3
      val_main_call1_v2 val_main_call1_v1 val_main_call1_v0 val_main_cst_8
    generalize val_main_indices_7 (F := Ideal) x0 x8 = ii
    generalize val_main_values_6 (F := Ideal) x0 x8 = vv
    pointwise []
  rw [hg]
  refine Finset.sum_congr rfl fun r _ => ?_
  rw [hv, hi, oneHot_eq]

/-- The gated values. -/
theorem value_at (s : Fin 2048) (h : Fin 16) (f : Fin 64) : val_main_v36 (F := Ideal) x1 x2 x5 x7 (ix4 0 s h f)
    = ∑ e : Fin 8, val_main_v20 (F := Ideal) x1 x7 (ix4 0 s h e)
        * ∑ d : Fin 1024, x5 (ix3 ⟨h.val * 8 + e.val, by omega⟩ d f) * x2 (ix3 0 s d) := by
  unfold val_main_v36 val_main_v35 val_main_v34
  generalize val_main_v20 (F := Ideal) x1 x7 = g
  pointwise []

/-- The scores. -/
theorem score_at (s : Fin 2048) (h : Fin 16) (t : Fin 2048) : val_main_v42 (F := Ideal) x0 x1 x3 x4 (ix4 0 h s t)
    = ∑ f : Fin 64, val_main_v3 (F := Ideal) x0 x3 (ix3 0 s ⟨h.val * 64 + f.val, by omega⟩)
        * val_main_v7 (F := Ideal) x1 x4 (ix3 0 t ⟨h.val * 64 + f.val, by omega⟩) := by
  unfold val_main_v42 val_main_v40 val_main_v39 val_main_v38 val_main_v37
  generalize val_main_v3 (F := Ideal) x0 x3 = g
  generalize val_main_v7 (F := Ideal) x1 x4 = g'
  pointwise []

/-- A maximum over the last axis is the fold over its coordinates. -/
theorem reduceMax_last (g : S1x16x2048x2048.Idx → EReal) (init : S_.Idx → EReal)
    (hr : S1x16x2048x2048.ReducesTo [3] S1x16x2048) (hu : 0 < S_.numel) (s : Fin 2048) (h : Fin 16) :
    Host.reduce max g init hr hu (ix3 0 h s)
      = Finset.univ.fold max (init (Shape.Idx.first hu)) (fun t : Fin 2048 => g (ix4 0 h s t)) := by
  have hR : S1x16x2048x2048.Reduces [3] S1x16x2048 := by decide
  rw [Host.reduce_eq_fold_single max g init hr hR hu]
  refine congrArg (fun q : Fin 2048 → EReal => Finset.univ.fold max (init (Shape.Idx.first hu)) q) ?_
  funext t
  refine congrArg g ?_
  funext a
  match a with
  | ⟨0, _⟩ => rfl
  | ⟨1, _⟩ => rfl
  | ⟨2, _⟩ => rfl
  | ⟨3, _⟩ => rfl

/-- The greatest score of a query. -/
theorem top_at (s : Fin 2048) (h : Fin 16) : val_main_v43 (F := Ideal) x0 x1 x3 x4 (ix3 0 h s)
    = Finset.univ.fold max (Ideal.ofBits .f32 0xFF800000#32) (fun t : Fin 2048 => val_main_v42 (F := Ideal) x0 x1 x3 x4 (ix4 0 h s t)) := by
  unfold val_main_v43
  generalize val_main_v42 (F := Ideal) x0 x1 x3 x4 = g
  exact reduceMax_last g _ _ _ s h

/-- The greatest score, once more compared with minus infinity. -/
theorem shift_at (s : Fin 2048) (h : Fin 16) :
    val_main_v45 (F := Ideal) x0 x1 x3 x4 (ix3 0 h s) = val_main_v43 (F := Ideal) x0 x1 x3 x4 (ix3 0 h s) := by
  rw [val_main_v45_apply, val_main_v44_apply, val_main_cst_10_apply]
  generalize val_main_v43 (F := Ideal) x0 x1 x3 x4 (ix3 0 h s) = y
  show max (Ideal.ofBits .f32 0xFF800000#32) y = y
  rw [Gate.negInf_eq]
  exact max_eq_right bot_le

/-- The weight of a key for a query before the division. -/
theorem weight_at (s : Fin 2048) (h : Fin 16) (t : Fin 2048) : val_main_v49 (F := Ideal) x0 x1 x3 x4 (ix4 0 h s t)
    = Ideal.exp (val_main_v42 (F := Ideal) x0 x1 x3 x4 (ix4 0 h s t) - val_main_v43 (F := Ideal) x0 x1 x3 x4 (ix3 0 h s)) := by
  rw [← shift_at]
  unfold val_main_v49 val_main_v48 val_main_v47 val_main_v46
  generalize val_main_v42 (F := Ideal) x0 x1 x3 x4 = g
  generalize val_main_v45 (F := Ideal) x0 x1 x3 x4 = g'
  pointwise []

/-- The attention result of a head. -/
theorem attn_at (s : Fin 2048) (h : Fin 16) (f : Fin 64) : val_main_v54 (F := Ideal) x0 x1 x2 x3 x4 x5 x7 (ix4 0 h s f)
    = ∑ t : Fin 2048, Ideal.div (val_main_v49 (F := Ideal) x0 x1 x3 x4 (ix4 0 h s t))
        (∑ t : Fin 2048, val_main_v49 (F := Ideal) x0 x1 x3 x4 (ix4 0 h s t))
          * val_main_v36 (F := Ideal) x1 x2 x5 x7 (ix4 0 t h f) := by
  unfold val_main_v54 val_main_v53 val_main_v52 val_main_v51 val_main_v50 val_main_v41 val_main_cst_11
  generalize val_main_v49 (F := Ideal) x0 x1 x3 x4 = g
  generalize val_main_v36 (F := Ideal) x1 x2 x5 x7 = g'
  pointwise []

/-- The index of the last contraction, from its three coordinates: expert, feature and head. -/
def contrOut : Fin 8 × Fin 64 × Fin 16 ≃ dot_S1x2048x16x8x64_S16x8x64x1024_S1x2048x1024_342_120_01_3_n_n.contr.Idx where
  toFun k := fun p => match p with
    | ⟨0, _⟩ => (k.1 : Fin 8)
    | ⟨1, _⟩ => (k.2.1 : Fin 64)
    | ⟨2, _⟩ => (k.2.2 : Fin 16)
  invFun q := ((q ⟨0, by decide⟩ : Fin 8), (q ⟨1, by decide⟩ : Fin 64), (q ⟨2, by decide⟩ : Fin 16))
  left_inv k := rfl
  right_inv q := by
    funext p
    match p with
    | ⟨0, _⟩ => rfl
    | ⟨1, _⟩ => rfl
    | ⟨2, _⟩ => rfl

/-- An index of the gated head results. -/
def ixG (s : Fin 2048) (h : Fin 16) (e : Fin 8) (f : Fin 64) : S1x2048x16x8x64.Idx := fun a => match a with
  | ⟨0, _⟩ => (0 : Fin 1)
  | ⟨1, _⟩ => s
  | ⟨2, _⟩ => h
  | ⟨3, _⟩ => e
  | ⟨4, _⟩ => f

/-- The last product as a sum over expert, feature and head. -/
theorem out_contr (s : Fin 2048) (m : Fin 1024) : val_main_v62 (F := Ideal) x0 x1 x2 x3 x4 x5 x6 x7 x8 (ix3 0 s m)
    = ∑ k : Fin 8 × Fin 64 × Fin 16, val_main_v61 (F := Ideal) x0 x1 x2 x3 x4 x5 x7 x8 (ixG s k.2.2 k.1 k.2.1)
        * val_main_v56 (F := Ideal) x6 (ix4 k.2.2 k.1 k.2.1 m) := by
  unfold val_main_v62
  generalize val_main_v61 (F := Ideal) x0 x1 x2 x3 x4 x5 x7 x8 = g
  generalize val_main_v56 (F := Ideal) x6 = g'
  show (0 : EReal) + _ = _
  rw [zero_add, ← Equiv.sum_comp contrOut]
  refine Finset.sum_congr rfl fun k _ => congrArg₂ (· * ·) (congrArg g ?_) (congrArg g' ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl

/-- The gated result of a head. -/
theorem gated_at (s : Fin 2048) (h : Fin 16) (e : Fin 8) (f : Fin 64) :
    val_main_v61 (F := Ideal) x0 x1 x2 x3 x4 x5 x7 x8 (ixG s h e f)
      = val_main_v33 (F := Ideal) x0 x8 (ix4 0 s h e) * val_main_v54 (F := Ideal) x0 x1 x2 x3 x4 x5 x7 (ix4 0 h s f) := by
  rw [val_main_v61_apply, val_main_v59_apply, val_main_v57_apply, val_main_v60_apply, val_main_v58_apply, val_main_v55_apply]
  generalize val_main_v33 (F := Ideal) x0 x8 = g
  generalize val_main_v54 (F := Ideal) x0 x1 x2 x3 x4 x5 x7 = g'
  refine congrArg₂ (fun a b : EReal => a * b) (congrArg g ?_) (congrArg g' ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

/-- The regrouped output weights. -/
theorem wo_at (h : Fin 16) (e : Fin 8) (f : Fin 64) (m : Fin 1024) :
    val_main_v56 (F := Ideal) x6 (ix4 h e f m) = x6 (ix3 ⟨h.val * 8 + e.val, by omega⟩ f m) := by
  unfold val_main_v56
  pointwise []

/-- The result: the sum over head, expert and feature of gate, head result and output weight. -/
theorem out_at (s : Fin 2048) (m : Fin 1024) : val_main_v62 (F := Ideal) x0 x1 x2 x3 x4 x5 x6 x7 x8 (ix3 0 s m)
    = ∑ h : Fin 16, ∑ e : Fin 8, ∑ f : Fin 64,
        val_main_v33 (F := Ideal) x0 x8 (ix4 0 s h e) * val_main_v54 (F := Ideal) x0 x1 x2 x3 x4 x5 x7 (ix4 0 h s f)
          * x6 (ix3 ⟨h.val * 8 + e.val, by omega⟩ f m) := by
  rw [out_contr]
  simp only [gated_at, wo_at, Fintype.sum_prod_type]
  refine (Finset.sum_congr rfl fun e _ => Finset.sum_comm).trans ?_
  exact Finset.sum_comm

end Cert.ReferenceIdeal.Read

end
-- ==== Proof.ReferenceIdeal.Conditions.lean ====
/- What the precondition says of the reference's own intermediate arrays: the second greatest gate of every group is above the
   third, and the greatest score of every query is finite. -/
module

public import proofs.«01_k».proof.Proof.Precondition
public import proofs.«01_k».proof.Proof.ReferenceIdeal.Stages

@[expose] public section

noncomputable section

namespace Cert.ReferenceIdeal.Read

open Cert.ReferenceIdeal Cert.ReferenceIdeal.Gen
open Idealize.ShloMosaic Idealize.ShloMosaic.TcCoe Idealize.ShloMosaic.Pointwise

/-- A greater-than bit is set exactly if the first is greater. -/
theorem ogt_one (a b : EReal) : FloatOps.cmpf (F := Ideal) (φ := .f32) .ogt a b = 1#1 ↔ b < a := by
  change BitVec.ofBool (decide (b < a)) = 1#1 ↔ b < a
  by_cases h : b < a <;> simp [h]

/-- A less-than bit is set exactly if the first is less. -/
theorem olt_one (a b : EReal) : FloatOps.cmpf (F := Ideal) (φ := .f32) .olt a b = 1#1 ↔ a < b := by
  change BitVec.ofBool (decide (a < b)) = 1#1 ↔ a < b
  by_cases h : a < b <;> simp [h]

/-- Two bits of which the conjunction is set are both set. -/
theorem and_one : ∀ a b : BitVec 1, a &&& b = 1#1 → a = 1#1 ∧ b = 1#1 := by decide

/-- The bit that says whether the second of a group of eight is above the third. -/
def gapBit (y : FVec Ideal Cert.Pre_clear_top.S1x2048x16x8 .f32) : IVec Cert.Pre_clear_top.S1x2048x16x1 1 :=
  cmpf .ogt
    (extractStridedSlice Cert.Pre_clear_top.S1x2048x16x1 ![0, 0, 0, 1] (Host.topK Cert.Pre_clear_top.S1x2048x16x3 3 (FloatOps.cmpfTotal .gt) y
      Cert.Pre_clear_top.Facts.sliceFits_S1x2048x16x8_S1x2048x16x3).1 Cert.Pre_clear_top.Facts.slices_S1x2048x16x3_S1x2048x16x1_0_0_0_1)
    (extractStridedSlice Cert.Pre_clear_top.S1x2048x16x1 ![0, 0, 0, 2] (Host.topK Cert.Pre_clear_top.S1x2048x16x3 3 (FloatOps.cmpfTotal .gt) y
      Cert.Pre_clear_top.Facts.sliceFits_S1x2048x16x8_S1x2048x16x3).1 Cert.Pre_clear_top.Facts.slices_S1x2048x16x3_S1x2048x16x1_0_0_0_2)

/-- The bit that says whether a greatest score is finite. -/
def finiteBit (z : FVec Ideal Cert.Pre_clear_top.S1x16x2048 .f32) : IVec Cert.Pre_clear_top.S1x16x2048 1 :=
  andi (cmpf .ogt z (broadcastInDim Cert.Pre_clear_top.S1x16x2048 ![] Cert.Pre_clear_top.Facts.bcast_S_S1x16x2048
      (constant (F := Ideal) Cert.Pre_clear_top.S_ .f32 0xFF800000#32)))
    (cmpf .olt z (broadcastInDim Cert.Pre_clear_top.S1x16x2048 ![] Cert.Pre_clear_top.Facts.bcast_S_S1x16x2048
      (constant (F := Ideal) Cert.Pre_clear_top.S_ .f32 0x7F800000#32)))

variable (x0 x1 x2 : Vec Ideal S1x2048x1024 .f32) (x3 x4 : Vec Ideal S1024x1024 .f32) (x5 : Vec Ideal S128x1024x64 .f32)
  (x6 : Vec Ideal S128x64x1024 .f32) (x7 x8 : Vec Ideal S128x1024 .f32)

/-- The precondition in terms of the reference's arrays. -/
theorem pre_eq : Cert.Pre_clear_top.fn (F := Ideal) x0 x1 x2 x3 x4 x5 x6 x7 x8
    = andi (andi (gapBit (val_main_v15 (F := Ideal) x1 x7)) (gapBit (val_main_v28 (F := Ideal) x0 x8)))
        (shapeCast Cert.Pre_clear_top.S1x2048x16x1 (transpose Cert.Pre_clear_top.S1x2048x16 [0, 2, 1]
          (finiteBit (val_main_v43 (F := Ideal) x0 x1 x3 x4)) Cert.Pre_clear_top.Facts.transposes_S1x16x2048_S1x2048x16_0_2_1)
          Cert.Pre_clear_top.Facts.shapeCasts_S1x2048x16_S1x2048x16x1) := rfl

/-- The gap bit at an index. -/
theorem gapBit_at (y : FVec Ideal Cert.Pre_clear_top.S1x2048x16x8 .f32) (s : Fin 2048) (g : Fin 16) (h : gapBit y (ix4 0 s g 0) = 1#1) :
    y (ix4 0 s g (Gate.rank (fun e => y (ix4 0 s g e)) 2)) < y (ix4 0 s g (Gate.rank (fun e => y (ix4 0 s g e)) 1)) := by
  have h1 := Gate.topK_value 3 (by decide) y Cert.Pre_clear_top.Facts.sliceFits_S1x2048x16x8_S1x2048x16x3 s g 1
  have h2 := Gate.topK_value 3 (by decide) y Cert.Pre_clear_top.Facts.sliceFits_S1x2048x16x8_S1x2048x16x3 s g 2
  have hb : ∀ z : FVec Ideal Cert.Pre_clear_top.S1x2048x16x3 .f32,
      cmpf .ogt (extractStridedSlice Cert.Pre_clear_top.S1x2048x16x1 ![0, 0, 0, 1] z Cert.Pre_clear_top.Facts.slices_S1x2048x16x3_S1x2048x16x1_0_0_0_1)
        (extractStridedSlice Cert.Pre_clear_top.S1x2048x16x1 ![0, 0, 0, 2] z Cert.Pre_clear_top.Facts.slices_S1x2048x16x3_S1x2048x16x1_0_0_0_2)
        (ix4 0 s g 0) = FloatOps.cmpf (F := Ideal) (φ := .f32) .ogt (z (ix4 0 s g 1)) (z (ix4 0 s g 2)) := fun z => by
    refine congrArg₂ (FloatOps.cmpf (F := Ideal) (φ := .f32) .ogt) (congrArg z (funext fun a => Fin.ext ?_)) (congrArg z (funext fun a => Fin.ext ?_))
    · match a with
      | ⟨0, _⟩ => rfl
      | ⟨1, _⟩ => exact Nat.zero_add _
      | ⟨2, _⟩ => exact Nat.zero_add _
      | ⟨3, _⟩ => rfl
    · match a with
      | ⟨0, _⟩ => rfl
      | ⟨1, _⟩ => exact Nat.zero_add _
      | ⟨2, _⟩ => exact Nat.zero_add _
      | ⟨3, _⟩ => rfl
  unfold gapBit at h
  rw [hb] at h
  erw [h1, h2] at h
  exact (ogt_one _ _).mp h

/-- The finite bit at an index. -/
theorem finiteBit_at (z : FVec Ideal Cert.Pre_clear_top.S1x16x2048 .f32) (g : Fin 16) (s : Fin 2048) (h : finiteBit z (ix3 0 g s) = 1#1) :
    ⊥ < z (ix3 0 g s) ∧ z (ix3 0 g s) < ⊤ := by
  have h' : FloatOps.cmpf (F := Ideal) (φ := .f32) .ogt (z (ix3 0 g s)) (Ideal.ofBits .f32 0xFF800000#32)
      &&& FloatOps.cmpf (F := Ideal) (φ := .f32) .olt (z (ix3 0 g s)) (Ideal.ofBits .f32 0x7F800000#32) = 1#1 := h
  obtain ⟨h1, h2⟩ := and_one _ _ h'
  rw [Gate.negInf_eq] at h1
  rw [Gate.posInf_eq] at h2
  exact ⟨(ogt_one _ _).mp h1, (olt_one _ _).mp h2⟩

/-- The bit of the finite peaks, brought to the layout of the gates. -/
theorem finiteBit_moved (b : IVec Cert.Pre_clear_top.S1x16x2048 1) (s : Fin 2048) (g : Fin 16) :
    shapeCast Cert.Pre_clear_top.S1x2048x16x1 (transpose Cert.Pre_clear_top.S1x2048x16 [0, 2, 1] b
      Cert.Pre_clear_top.Facts.transposes_S1x16x2048_S1x2048x16_0_2_1) Cert.Pre_clear_top.Facts.shapeCasts_S1x2048x16_S1x2048x16x1 (ix4 0 s g 0)
      = b (ix3 0 g s) := by
  pointwise []

variable {x0 x1 x2 x3 x4 x5 x6 x7 x8}

/-- Under the precondition all three bits hold at every query and head. -/
theorem pre_bits (h : Cert.Pre_clear_top.fn (F := Ideal) x0 x1 x2 x3 x4 x5 x6 x7 x8 = fun _ => 1#1) (s : Fin 2048) (g : Fin 16) :
    (gapBit (val_main_v15 (F := Ideal) x1 x7) (ix4 0 s g 0) = 1#1 ∧ gapBit (val_main_v28 (F := Ideal) x0 x8) (ix4 0 s g 0) = 1#1)
      ∧ finiteBit (val_main_v43 (F := Ideal) x0 x1 x3 x4) (ix3 0 g s) = 1#1 := by
  have e := congrFun ((pre_eq x0 x1 x2 x3 x4 x5 x6 x7 x8).symm.trans h) (ix4 0 s g 0)
  obtain ⟨h1, h2⟩ := and_one _ _ e
  obtain ⟨h3, h4⟩ := and_one _ _ h1
  exact ⟨⟨h3, h4⟩, (finiteBit_moved _ s g).symm.trans h2⟩

/-- Under the precondition the second value gate of a group is above the third. -/
theorem gapV (h : Cert.Pre_clear_top.fn (F := Ideal) x0 x1 x2 x3 x4 x5 x6 x7 x8 = fun _ => 1#1) (s : Fin 2048) (g : Fin 16) :
    val_main_v15 (F := Ideal) x1 x7 (ix4 0 s g (Gate.rank (fun e => val_main_v15 (F := Ideal) x1 x7 (ix4 0 s g e)) 2))
      < val_main_v15 (F := Ideal) x1 x7 (ix4 0 s g (Gate.rank (fun e => val_main_v15 (F := Ideal) x1 x7 (ix4 0 s g e)) 1)) :=
  gapBit_at _ s g (pre_bits h s g).1.1

/-- Under the precondition the second output gate of a group is above the third. -/
theorem gapO (h : Cert.Pre_clear_top.fn (F := Ideal) x0 x1 x2 x3 x4 x5 x6 x7 x8 = fun _ => 1#1) (s : Fin 2048) (g : Fin 16) :
    val_main_v28 (F := Ideal) x0 x8 (ix4 0 s g (Gate.rank (fun e => val_main_v28 (F := Ideal) x0 x8 (ix4 0 s g e)) 2))
      < val_main_v28 (F := Ideal) x0 x8 (ix4 0 s g (Gate.rank (fun e => val_main_v28 (F := Ideal) x0 x8 (ix4 0 s g e)) 1)) :=
  gapBit_at _ s g (pre_bits h s g).1.2

/-- Under the precondition the greatest score of a query is finite. -/
theorem finite_top (h : Cert.Pre_clear_top.fn (F := Ideal) x0 x1 x2 x3 x4 x5 x6 x7 x8 = fun _ => 1#1) (s : Fin 2048) (g : Fin 16) :
    ⊥ < val_main_v43 (F := Ideal) x0 x1 x3 x4 (ix3 0 g s) ∧ val_main_v43 (F := Ideal) x0 x1 x3 x4 (ix3 0 g s) < ⊤ :=
  finiteBit_at _ g s (pre_bits h s g).2

end Cert.ReferenceIdeal.Read

end
-- ==== Proof.KernelIdeal.AttentionBlock.lean ====
/- What the body of the attention call computes from its blocks, at an index. -/
module

public import proofs.«01_k».proof.Proof.Gen.KernelIdeal.Skeleton
public import proofs.«01_k».proof.Proof.Gate

@[expose] public section

noncomputable section

namespace Cert.KernelIdeal.Att

open Cert.KernelIdeal Cert.KernelIdeal.Gen
open Idealize.ShloMosaic Idealize.ShloMosaic.Pointwise

/-- The scores of one head: the product of its query and key columns. -/
def scoresOf (q : FVec Ideal S64x256 .bf16) (k : FVec Ideal S64x2048 .bf16) : FVec Ideal S256x2048 .f32 :=
  matmul dot_S64x256_S64x2048_S256x2048_0_0_1_1_n_n none q k (constant S256x2048 .f32 0x00000000#32)

/-- The unnormalised weights of one head: the exponentials of the scores less their greatest. -/
def weightsOf (q : FVec Ideal S64x256 .bf16) (k : FVec Ideal S64x2048 .bf16) : FVec Ideal S256x2048 .f32 :=
  exp (subf (scoresOf q k) (broadcastTo S256x2048 (shapeCast S256x1
    (multiReduction .maximumf [1] S256 (scoresOf q k) 0xFF800000#32 reduces_S256x2048_S256 (.inl rfl) rfl) shapeCasts_S256_S256x1)
    broadcasts_S256x1_S256x2048))

/-- The scores at an index. -/
theorem scoresOf_at (q : FVec Ideal S64x256 .bf16) (k : FVec Ideal S64x2048 .bf16) (r : Fin 256) (t : Fin 2048) :
    scoresOf q k (ix2 r t) = ∑ f : Fin 64, q (ix2 f r) * k (ix2 f t) := by
  pointwise [scoresOf]

/-- The weights at an index. -/
theorem weightsOf_at (q : FVec Ideal S64x256 .bf16) (k : FVec Ideal S64x2048 .bf16) (r : Fin 256) (t : Fin 2048) :
    weightsOf q k (ix2 r t) = Ideal.exp (scoresOf q k (ix2 r t)
      - Finset.univ.fold max (Ideal.ofBits .f32 0xFF800000#32) (fun t : Fin 2048 => scoresOf q k (ix2 r t))) := by
  unfold weightsOf
  generalize scoresOf q k = y
  pointwise []

/-- The gated result of one head, from its values, its gates and its weights. -/
theorem head_at (v : FVec Ideal S64x2048 .bf16) (g : FVec Ideal S8x256 .f32) (p : FVec Ideal S256x2048 .f32)
    (e : Fin 8) (f : Fin 64) (r : Fin 256) :
    k1_pay11 (F := Ideal) v g p (ix2 ⟨e.val * 64 + f.val, by omega⟩ r)
      = g (ix2 e r) * Ideal.div 1 (∑ t : Fin 2048, p (ix2 r t)) * ∑ t : Fin 2048, v (ix2 f t) * p (ix2 r t) := by
  pointwise [k1_pay11]

/-- A slice of 64 rows of the queries. -/
theorem sliceQ_at (o : Nat) (h : S512x256.Slices ![o, 0] S64x256) (x : FVec Ideal S512x256 .bf16) (f : Fin 64) (r : Fin 256)
    (ho : o + f.val < 512) : extractStridedSlice S64x256 ![o, 0] x h (ix2 f r) = x (ix2 ⟨o + f.val, ho⟩ r) := by
  pointwise []

/-- A slice of 64 rows of the keys or the values. -/
theorem sliceK_at (o : Nat) (h : S512x2048.Slices ![o, 0] S64x2048) (x : FVec Ideal S512x2048 .bf16) (f : Fin 64) (t : Fin 2048)
    (ho : o + f.val < 512) : extractStridedSlice S64x2048 ![o, 0] x h (ix2 f t) = x (ix2 ⟨o + f.val, ho⟩ t) := by
  pointwise []

/-- A slice of 8 rows of the gates. -/
theorem sliceG_at (o : Nat) (h : S64x256.Slices ![o, 0] S8x256) (x : FVec Ideal S64x256 .f32) (e : Fin 8) (r : Fin 256)
    (ho : o + e.val < 64) : extractStridedSlice S8x256 ![o, 0] x h (ix2 e r) = x (ix2 ⟨o + e.val, ho⟩ r) := by
  pointwise []

/-- A sum over 4096 rows by head, expert and feature. -/
theorem sum_rows (F : Fin 4096 → EReal) : ∑ x, F x
    = ∑ a : Fin 8, ∑ e : Fin 8, ∑ f : Fin 64, F ⟨a.val * 512 + e.val * 64 + f.val, by omega⟩ := by
  have h : ∀ k : Fin 8 × Fin 8 × Fin 64, k.1.val * 512 + k.2.1.val * 64 + k.2.2.val < 4096 := fun k => by omega
  rw [← Equiv.sum_comp (Equiv.mk (α := Fin 8 × Fin 8 × Fin 64) (β := Fin 4096)
    (fun k => ⟨k.1.val * 512 + k.2.1.val * 64 + k.2.2.val, h k⟩)
    (fun x => (⟨x.val / 512, by omega⟩, ⟨x.val % 512 / 64, by omega⟩, ⟨x.val % 64, by omega⟩))
    (fun k => Prod.ext (Fin.ext (by dsimp only; omega)) (Prod.ext (Fin.ext (by dsimp only; omega)) (Fin.ext (by dsimp only; omega))))
    (fun x => Fin.ext (by dsimp only; omega)))]
  simp only [Fintype.sum_prod_type]
  rfl

/-- The partial product of eight heads, from their gated results and the rows of the output weights. -/
theorem partial_at (y0 y1 y2 y3 y4 y5 y6 : FVec Ideal S512x256 .f32) (v : FVec Ideal S64x2048 .bf16) (g : FVec Ideal S8x256 .f32)
    (p : FVec Ideal S256x2048 .f32) (w : Vec Ideal S4096x1024 .bf16) (Y : Fin 8 → Fin 8 → Fin 64 → Fin 256 → EReal)
    (h0 : ∀ (e : Fin 8) (f : Fin 64) r, y0 (ix2 ⟨e.val * 64 + f.val, by omega⟩ r) = Y 0 e f r)
    (h1 : ∀ (e : Fin 8) (f : Fin 64) r, y1 (ix2 ⟨e.val * 64 + f.val, by omega⟩ r) = Y 1 e f r)
    (h2 : ∀ (e : Fin 8) (f : Fin 64) r, y2 (ix2 ⟨e.val * 64 + f.val, by omega⟩ r) = Y 2 e f r)
    (h3 : ∀ (e : Fin 8) (f : Fin 64) r, y3 (ix2 ⟨e.val * 64 + f.val, by omega⟩ r) = Y 3 e f r)
    (h4 : ∀ (e : Fin 8) (f : Fin 64) r, y4 (ix2 ⟨e.val * 64 + f.val, by omega⟩ r) = Y 4 e f r)
    (h5 : ∀ (e : Fin 8) (f : Fin 64) r, y5 (ix2 ⟨e.val * 64 + f.val, by omega⟩ r) = Y 5 e f r)
    (h6 : ∀ (e : Fin 8) (f : Fin 64) r, y6 (ix2 ⟨e.val * 64 + f.val, by omega⟩ r) = Y 6 e f r)
    (h7 : ∀ (e : Fin 8) (f : Fin 64) r, k1_pay11 (F := Ideal) v g p (ix2 ⟨e.val * 64 + f.val, by omega⟩ r) = Y 7 e f r)
    (r : Fin 256) (m : Fin 1024) :
    k1_pay1 (F := Ideal) y0 y1 y2 y3 y4 y5 y6 v g p w (ix2 r m)
      = ∑ a : Fin 8, ∑ e : Fin 8, ∑ f : Fin 64, Y a e f r * w (ix2 ⟨a.val * 512 + e.val * 64 + f.val, by omega⟩ m) := by
  have hc : k1_pay1 (F := Ideal) y0 y1 y2 y3 y4 y5 y6 v g p w
      = matmul dot_S4096x256_S4096x1024_S256x1024_0_0_1_1_n_n none (truncf .bf16 (concatenate S4096x256 0
          [⟨S512x256, y0⟩, ⟨S512x256, y1⟩, ⟨S512x256, y2⟩, ⟨S512x256, y3⟩, ⟨S512x256, y4⟩, ⟨S512x256, y5⟩, ⟨S512x256, y6⟩,
            ⟨S512x256, k1_pay11 (F := Ideal) v g p⟩]
          concatenates_S512x256_S512x256_S512x256_S512x256_S512x256_S512x256_S512x256_S512x256_S4096x256_d0) bitsLt_bf16_f32)
        (shapeCast S4096x1024 w shapeCasts_S4096x1024_S4096x1024) (constant S256x1024 .f32 0x00000000#32) := rfl
  rw [hc]
  revert h7
  generalize k1_pay11 (F := Ideal) v g p = y7
  intro h7
  pointwise []
  rw [sum_rows]
  refine Finset.sum_congr rfl fun a _ => Finset.sum_congr rfl fun e _ => Finset.sum_congr rfl fun f _ => congrArg₂ (· * ·) ?_ rfl
  fin_vals a with hk
  · obtain rfl : a = 0 := Fin.ext hk
    refine (dif_pos (by dsimp only; omega)).trans ?_
    exact (congrArg (fun i => y0 (ix2 i r)) (Fin.ext (by dsimp only; omega))).trans (h0 e f r)
  · obtain rfl : a = 1 := Fin.ext hk
    refine (dif_neg (by dsimp only; omega)).trans ?_
    refine (dif_pos (by dsimp only; omega)).trans ?_
    exact (congrArg (fun i => y1 (ix2 i r)) (Fin.ext (by dsimp only; omega))).trans (h1 e f r)
  · obtain rfl : a = 2 := Fin.ext hk
    refine (dif_neg (by dsimp only; omega)).trans ?_
    refine (dif_neg (by dsimp only; omega)).trans ?_
    refine (dif_pos (by dsimp only; omega)).trans ?_
    exact (congrArg (fun i => y2 (ix2 i r)) (Fin.ext (by dsimp only; omega))).trans (h2 e f r)
  · obtain rfl : a = 3 := Fin.ext hk
    refine (dif_neg (by dsimp only; omega)).trans ?_
    refine (dif_neg (by dsimp only; omega)).trans ?_
    refine (dif_neg (by dsimp only; omega)).trans ?_
    refine (dif_pos (by dsimp only; omega)).trans ?_
    exact (congrArg (fun i => y3 (ix2 i r)) (Fin.ext (by dsimp only; omega))).trans (h3 e f r)
  · obtain rfl : a = 4 := Fin.ext hk
    refine (dif_neg (by dsimp only; omega)).trans ?_
    refine (dif_neg (by dsimp only; omega)).trans ?_
    refine (dif_neg (by dsimp only; omega)).trans ?_
    refine (dif_neg (by dsimp only; omega)).trans ?_
    refine (dif_pos (by dsimp only; omega)).trans ?_
    exact (congrArg (fun i => y4 (ix2 i r)) (Fin.ext (by dsimp only; omega))).trans (h4 e f r)
  · obtain rfl : a = 5 := Fin.ext hk
    refine (dif_neg (by dsimp only; omega)).trans ?_
    refine (dif_neg (by dsimp only; omega)).trans ?_
    refine (dif_neg (by dsimp only; omega)).trans ?_
    refine (dif_neg (by dsimp only; omega)).trans ?_
    refine (dif_neg (by dsimp only; omega)).trans ?_
    refine (dif_pos (by dsimp only; omega)).trans ?_
    exact (congrArg (fun i => y5 (ix2 i r)) (Fin.ext (by dsimp only; omega))).trans (h5 e f r)
  · obtain rfl : a = 6 := Fin.ext hk
    refine (dif_neg (by dsimp only; omega)).trans ?_
    refine (dif_neg (by dsimp only; omega)).trans ?_
    refine (dif_neg (by dsimp only; omega)).trans ?_
    refine (dif_neg (by dsimp only; omega)).trans ?_
    refine (dif_neg (by dsimp only; omega)).trans ?_
    refine (dif_neg (by dsimp only; omega)).trans ?_
    refine (dif_pos (by dsimp only; omega)).trans ?_
    exact (congrArg (fun i => y6 (ix2 i r)) (Fin.ext (by dsimp only; omega))).trans (h6 e f r)
  · obtain rfl : a = 7 := Fin.ext hk
    refine (dif_neg (by dsimp only; omega)).trans ?_
    refine (dif_neg (by dsimp only; omega)).trans ?_
    refine (dif_neg (by dsimp only; omega)).trans ?_
    refine (dif_neg (by dsimp only; omega)).trans ?_
    refine (dif_neg (by dsimp only; omega)).trans ?_
    refine (dif_neg (by dsimp only; omega)).trans ?_
    refine (dif_neg (by dsimp only; omega)).trans ?_
    exact (congrArg (fun i => y7 (ix2 i r)) (Fin.ext (by dsimp only; omega))).trans (h7 e f r)

/-- A head's score of query column `r` and key column `t`. -/
def scoreOf (q : Vec Ideal S512x256 .bf16) (k : Vec Ideal S512x2048 .bf16) (a : Fin 8) (r : Fin 256) (t : Fin 2048) : EReal :=
  ∑ f : Fin 64, q (ix2 ⟨a.val * 64 + f.val, by omega⟩ r) * k (ix2 ⟨a.val * 64 + f.val, by omega⟩ t)

/-- The unnormalised weight of that pair: the exponential of the score below the column's peak. -/
def weightOf (q : Vec Ideal S512x256 .bf16) (k : Vec Ideal S512x2048 .bf16) (a : Fin 8) (r : Fin 256) (t : Fin 2048) : EReal :=
  Ideal.exp (scoreOf q k a r t - Finset.univ.fold max (Ideal.ofBits .f32 0xFF800000#32) fun u => scoreOf q k a r u)

/-- A head's result, gated by one expert. -/
def headOf (q : Vec Ideal S512x256 .bf16) (k v : Vec Ideal S512x2048 .bf16) (g : Vec Ideal S64x256 .f32)
    (a e : Fin 8) (f : Fin 64) (r : Fin 256) : EReal :=
  g (ix2 ⟨a.val * 8 + e.val, by omega⟩ r) * Ideal.div 1 (∑ t, weightOf q k a r t)
    * ∑ t, v (ix2 ⟨a.val * 64 + f.val, by omega⟩ t) * weightOf q k a r t

/-- The four loaded blocks are used as they are. -/
theorem pay3_eq (x : Vec Ideal S512x256 .bf16) : k1_pay3 (F := Ideal) x = x := by
  funext i; pointwise [k1_pay3]

theorem pay4_eq (x : Vec Ideal S512x2048 .bf16) : k1_pay4 (F := Ideal) x = x := by
  funext i; pointwise [k1_pay4]

theorem pay5_eq (x : Vec Ideal S512x2048 .bf16) : k1_pay5 (F := Ideal) x = x := by
  funext i; pointwise [k1_pay5]

theorem pay6_eq (x : Vec Ideal S64x256 .f32) : k1_pay6 (F := Ideal) x = x := by
  funext i; pointwise [k1_pay6]

/-- A head's gated result from its slices of the four blocks. -/
theorem head_slices (q : Vec Ideal S512x256 .bf16) (k v : Vec Ideal S512x2048 .bf16) (g : Vec Ideal S64x256 .f32)
    (a : Fin 8) (o o' : Nat) (ho : o = a.val * 64) (ho' : o' = a.val * 8) (hq : S512x256.Slices ![o, 0] S64x256)
    (hk : S512x2048.Slices ![o, 0] S64x2048) (hg : S64x256.Slices ![o', 0] S8x256) (e : Fin 8) (f : Fin 64) (r : Fin 256) :
    k1_pay11 (F := Ideal) (extractStridedSlice S64x2048 ![o, 0] v hk) (extractStridedSlice S8x256 ![o', 0] g hg)
      (weightsOf (extractStridedSlice S64x256 ![o, 0] q hq) (extractStridedSlice S64x2048 ![o, 0] k hk))
      (ix2 ⟨e.val * 64 + f.val, by omega⟩ r) = headOf q k v g a e f r := by
  subst ho ho'
  have hs : ∀ t, scoresOf (extractStridedSlice S64x256 ![a.val * 64, 0] q hq) (extractStridedSlice S64x2048 ![a.val * 64, 0] k hk) (ix2 r t)
      = scoreOf q k a r t := fun t => by
    rw [scoresOf_at]
    exact Finset.sum_congr rfl fun x _ => congrArg₂ (· * ·) (sliceQ_at _ hq q x r (by omega)) (sliceK_at _ hk k x t (by omega))
  have hw : ∀ t, weightsOf (extractStridedSlice S64x256 ![a.val * 64, 0] q hq) (extractStridedSlice S64x2048 ![a.val * 64, 0] k hk) (ix2 r t)
      = weightOf q k a r t := fun t => by
    rw [weightsOf_at]
    simp only [hs]
    rfl
  rw [head_at]
  simp only [hw]
  rw [sliceG_at _ hg g e r (by omega)]
  refine congrArg (_ * ·) (Finset.sum_congr rfl fun t _ => congrArg (· * _) (sliceK_at _ hk v f t (by omega)))

section
variable (v0 : Vec Ideal S512x256 .bf16) (v2 v4 : Vec Ideal S512x2048 .bf16) (v6 : Vec Ideal S64x256 .f32)

/-- Head 0. -/
theorem head0_at (e : Fin 8) (f : Fin 64) (r : Fin 256) :
    k1_pay7 (F := Ideal) v0 v2 v4 v6 (ix2 ⟨e.val * 64 + f.val, by omega⟩ r)
      = headOf v0 v2 v4 v6 0 e f r :=
  (head_slices (k1_pay3 v0) (k1_pay4 v2) (k1_pay5 v4) (k1_pay6 v6) 0 0 0 rfl rfl (by decide) (by decide) (by decide) e f r).trans
    (by rw [pay3_eq, pay4_eq, pay5_eq, pay6_eq])

/-- Head 1. -/
theorem head1_at (e : Fin 8) (f : Fin 64) (r : Fin 256) :
    k1_pay11 (F := Ideal) (k1_pay8 v4) (k1_pay9 v6) (k1_pay10 v0 v2) (ix2 ⟨e.val * 64 + f.val, by omega⟩ r)
      = headOf v0 v2 v4 v6 1 e f r :=
  (head_slices (k1_pay3 v0) (k1_pay4 v2) (k1_pay5 v4) (k1_pay6 v6) 1 64 8 rfl rfl (by decide) (by decide) (by decide) e f r).trans
    (by rw [pay3_eq, pay4_eq, pay5_eq, pay6_eq])

/-- Head 2. -/
theorem head2_at (e : Fin 8) (f : Fin 64) (r : Fin 256) :
    k1_pay12 (F := Ideal) (k1_pay3 v0) (k1_pay4 v2) (k1_pay5 v4) (k1_pay6 v6) (ix2 ⟨e.val * 64 + f.val, by omega⟩ r)
      = headOf v0 v2 v4 v6 2 e f r :=
  (head_slices (k1_pay3 v0) (k1_pay4 v2) (k1_pay5 v4) (k1_pay6 v6) 2 128 16 rfl rfl (by decide) (by decide) (by decide) e f r).trans
    (by rw [pay3_eq, pay4_eq, pay5_eq, pay6_eq])

/-- Head 3. -/
theorem head3_at (e : Fin 8) (f : Fin 64) (r : Fin 256) :
    k1_pay16 (F := Ideal) (k1_pay13 (k1_pay5 v4)) (k1_pay14 (k1_pay6 v6)) (k1_pay15 (k1_pay3 v0) (k1_pay4 v2)) (ix2 ⟨e.val * 64 + f.val, by omega⟩ r)
      = headOf v0 v2 v4 v6 3 e f r :=
  (head_slices (k1_pay3 v0) (k1_pay4 v2) (k1_pay5 v4) (k1_pay6 v6) 3 192 24 rfl rfl (by decide) (by decide) (by decide) e f r).trans
    (by rw [pay3_eq, pay4_eq, pay5_eq, pay6_eq])

/-- Head 4. -/
theorem head4_at (e : Fin 8) (f : Fin 64) (r : Fin 256) :
    k1_pay17 (F := Ideal) (k1_pay3 v0) (k1_pay4 v2) (k1_pay5 v4) (k1_pay6 v6) (ix2 ⟨e.val * 64 + f.val, by omega⟩ r)
      = headOf v0 v2 v4 v6 4 e f r :=
  (head_slices (k1_pay3 v0) (k1_pay4 v2) (k1_pay5 v4) (k1_pay6 v6) 4 256 32 rfl rfl (by decide) (by decide) (by decide) e f r).trans
    (by rw [pay3_eq, pay4_eq, pay5_eq, pay6_eq])

/-- Head 5. -/
theorem head5_at (e : Fin 8) (f : Fin 64) (r : Fin 256) :
    k1_pay21 (F := Ideal) (k1_pay18 (k1_pay5 v4)) (k1_pay19 (k1_pay6 v6)) (k1_pay20 (k1_pay3 v0) (k1_pay4 v2)) (ix2 ⟨e.val * 64 + f.val, by omega⟩ r)
      = headOf v0 v2 v4 v6 5 e f r :=
  (head_slices (k1_pay3 v0) (k1_pay4 v2) (k1_pay5 v4) (k1_pay6 v6) 5 320 40 rfl rfl (by decide) (by decide) (by decide) e f r).trans
    (by rw [pay3_eq, pay4_eq, pay5_eq, pay6_eq])

/-- Head 6. -/
theorem head6_at (e : Fin 8) (f : Fin 64) (r : Fin 256) :
    k1_pay22 (F := Ideal) (k1_pay3 v0) (k1_pay4 v2) (k1_pay5 v4) (k1_pay6 v6) (ix2 ⟨e.val * 64 + f.val, by omega⟩ r)
      = headOf v0 v2 v4 v6 6 e f r :=
  (head_slices (k1_pay3 v0) (k1_pay4 v2) (k1_pay5 v4) (k1_pay6 v6) 6 384 48 rfl rfl (by decide) (by decide) (by decide) e f r).trans
    (by rw [pay3_eq, pay4_eq, pay5_eq, pay6_eq])

/-- Head 7. -/
theorem head7_at (e : Fin 8) (f : Fin 64) (r : Fin 256) :
    k1_pay11 (F := Ideal) (k1_pay23 (k1_pay5 v4)) (k1_pay24 (k1_pay6 v6)) (k1_pay25 (k1_pay3 v0) (k1_pay4 v2)) (ix2 ⟨e.val * 64 + f.val, by omega⟩ r)
      = headOf v0 v2 v4 v6 7 e f r :=
  (head_slices (k1_pay3 v0) (k1_pay4 v2) (k1_pay5 v4) (k1_pay6 v6) 7 448 56 rfl rfl (by decide) (by decide) (by decide) e f r).trans
    (by rw [pay3_eq, pay4_eq, pay5_eq, pay6_eq])

end

end Cert.KernelIdeal.Att

end
-- ==== Proof.KernelIdeal.AttentionValue.lean ====
/- What the attention call leaves in its output array, as a function of the arrays it is given. -/
module

public import proofs.«01_k».proof.Proof.KernelIdeal.Attention
public import proofs.«01_k».proof.Proof.KernelIdeal.AttentionBlock
public import Idealize.ShloMosaic.Lib.Pipeline.Value
public import Idealize.ShloMosaic.Lib.Pipeline.ValueKit.Tiles

@[expose] public section

noncomputable section

namespace Cert.KernelIdeal.Att

open Cert.KernelIdeal Cert.KernelIdeal.Gen
open Idealize.ShloMosaic Idealize.ShloMosaic.TcCoe Idealize.ShloMosaic.Pointwise
open Idealize.ShloMosaic.Pipeline (Dat)

/-- Two zero offsets. -/
theorem zeros2 : (![0, 0] : Fin 2 → Nat) = fun _ => 0 := funext fun a => by fin_cases a <;> rfl

/-- The partial product of one block: eight heads, with their 4096 rows of the output weights. -/
def partialOf (x0 : Vec Ideal S512x256 .bf16) (x1 x2 : Vec Ideal S512x2048 .bf16) (x3 : Vec Ideal S64x256 .f32) (x4 : Vec Ideal S8192x1024 .bf16)
    (j : Fin 2) (r : Fin 256) (m : Fin 1024) : EReal :=
  ∑ a : Fin 8, ∑ e : Fin 8, ∑ f : Fin 64, headOf x0 x1 x2 x3 a e f r
    * x4 (ix2 ⟨j.val * 4096 + (a.val * 512 + e.val * 64 + f.val), by omega⟩ m)

/-- The row offset of the head block's output weights. -/
theorem off_rows (i : grid1.Coords) :
    (![BitVec.toNat (Scalar.indexCast (Scalar.muli (BitVec.ofNat 32 (i 1).val) 4096#32)), 0] : Fin 2 → Nat) = ![(i 1).val * 4096, 0] := by
  have h : (i 1).val < 2 := (i 1).isLt
  congr 1
  generalize (i 1).val = n at h
  interval_cases n <;> decide

/-- A row of the head block's output weights. -/
theorem rows_at (i : grid1.Coords) (x4 : Vec Ideal S8192x1024 .bf16) (j : Fin 2) (hj : (i 1).val = j.val) (off : Fin 2 → Nat)
    (ho : off = ![(i 1).val * 4096, 0]) (h : ∀ a, off a + (![4096, 1024] : Fin 2 → Nat) a ≤ S8192x1024.size a) (x : Fin 4096) (m : Fin 1024) :
    View.ld x4 (Rect.unit off ![4096, 1024] h) (ix2 x m) = x4 (ix2 ⟨j.val * 4096 + x.val, by omega⟩ m) := by
  subst ho
  refine View.ld_unit_apply_of x4 _ _ h (ix2 x m) _ fun a => ?_
  match a with
  | ⟨0, _⟩ => show j.val * 4096 + x.val = (i 1).val * 4096 + x.val; rw [hj]
  | ⟨1, _⟩ => show m.val = 0 + m.val; omega

/-- At an even point the output block is set to the block's partial product. -/
theorem out1_A_at (c : Dev nD) (i : grid1.Coords) (arg2 : Memref sig .tc .vmem S512x256 .bf16) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S64x256 .f32) (harg5 : arg5.IsWhole)
    (arg6 : Memref sig .tc .vmem S8192x1024 .bf16) (harg6 : arg6.IsWhole) (arg7 : Memref sig .tc .vmem S256x1024 .f32) (harg7 : arg7.IsWhole)
    (hc0 : cond1_0 i) (hc1 : ¬cond1_1 i) (x0 : Vec Ideal S512x256 .bf16) (x1 : Vec Ideal S512x2048 .bf16) (x2 : Vec Ideal S512x2048 .bf16) (x3 : Vec Ideal S64x256 .f32) (x4 : Vec Ideal S8192x1024 .bf16)
    (j : Fin 2) (hj : (i 1).val = j.val) (r : Fin 256) (m : Fin 1024) :
    out1_A_5 c i arg2 harg2 arg3 harg3 arg4 harg4 arg5 harg5 arg6 harg6 arg7 harg7 hc0 hc1 x0 x1 x2 x3 x4 (ix2 r m)
      = partialOf x0 x1 x2 x3 x4 j r m := by
  unfold out1_A_5
  rw [View.read_writes_eq_canon _ _ _ (cover1_A_5 c i arg2 harg2 arg3 harg3 arg4 harg4 arg5 harg5 arg6 harg6 arg7 harg7 hc0 hc1 x0 x1 x2 x3 x4)]
  unfold kernelRun1_A
  dsimp only
  sl_unfold_words
  rw [View.canon_unit_zero zeros2]
  simp only [View.readAt_eq_ld, harg2.read_unread, harg3.read_unread, harg4.read_unread, harg5.read_unread, harg6.read_unread,
    View.ld_unit_zero (S := S512x256) zeros2, View.ld_unit_zero (S := S512x2048) zeros2, View.ld_unit_zero (S := S64x256) zeros2]
  refine (partial_at _ _ _ _ _ _ _ _ _ _ _ (fun a e f r => headOf x0 x1 x2 x3 a e f r) (head0_at x0 x1 x2 x3) (head1_at x0 x1 x2 x3)
    (head2_at x0 x1 x2 x3) (head3_at x0 x1 x2 x3) (head4_at x0 x1 x2 x3) (head5_at x0 x1 x2 x3) (head6_at x0 x1 x2 x3)
    (head7_at x0 x1 x2 x3) r m).trans ?_
  exact Finset.sum_congr rfl fun a _ => Finset.sum_congr rfl fun e _ => Finset.sum_congr rfl fun f _ =>
    congrArg (_ * ·) (rows_at i x4 j hj _ (off_rows i) _ _ m)

/-- At an odd point the block's partial product is added to the output block. -/
theorem out1_B_at (c : Dev nD) (i : grid1.Coords) (arg2 : Memref sig .tc .vmem S512x256 .bf16) (harg2 : arg2.IsWhole) (arg3 : Memref sig .tc .vmem S512x2048 .bf16) (harg3 : arg3.IsWhole)
    (arg4 : Memref sig .tc .vmem S512x2048 .bf16) (harg4 : arg4.IsWhole) (arg5 : Memref sig .tc .vmem S64x256 .f32) (harg5 : arg5.IsWhole)
    (arg6 : Memref sig .tc .vmem S8192x1024 .bf16) (harg6 : arg6.IsWhole) (arg7 : Memref sig .tc .vmem S256x1024 .f32) (harg7 : arg7.IsWhole)
    (hc0 : ¬cond1_0 i) (hc1 : cond1_1 i) (x0 : Vec Ideal S512x256 .bf16) (x1 : Vec Ideal S512x2048 .bf16) (x2 : Vec Ideal S512x2048 .bf16) (x3 : Vec Ideal S64x256 .f32) (x4 : Vec Ideal S8192x1024 .bf16)
    (xo : Vec Ideal S256x1024 .f32) (j : Fin 2) (hj : (i 1).val = j.val) (r : Fin 256) (m : Fin 1024) :
    out1_B_5 c i arg2 harg2 arg3 harg3 arg4 harg4 arg5 harg5 arg6 harg6 arg7 harg7 hc0 hc1 x0 x1 x2 x3 x4 xo (ix2 r m)
      = xo (ix2 r m) + partialOf x0 x1 x2 x3 x4 j r m := by
  unfold out1_B_5
  rw [View.read_writes_eq_canon _ _ _ (cover1_B_5 c i arg2 harg2 arg3 harg3 arg4 harg4 arg5 harg5 arg6 harg6 arg7 harg7 hc0 hc1 x0 x1 x2 x3 x4 xo)]
  unfold kernelRun1_B
  dsimp only
  sl_unfold_words
  rw [View.canon_unit_zero zeros2]
  simp only [View.readAt_eq_ld, harg2.read_unread, harg3.read_unread, harg4.read_unread, harg5.read_unread, harg6.read_unread, harg7.read_unread,
    View.ld_unit_zero (S := S512x256) zeros2, View.ld_unit_zero (S := S512x2048) zeros2, View.ld_unit_zero (S := S64x256) zeros2,
    View.ld_unit_zero (S := S256x1024) zeros2]
  unfold k1_pay2
  simp only [shapeCast_self]
  show _ + _ = _ + _
  congr 1
  refine (partial_at _ _ _ _ _ _ _ _ _ _ _ (fun a e f r => headOf x0 x1 x2 x3 a e f r) (head0_at x0 x1 x2 x3) (head1_at x0 x1 x2 x3)
    (head2_at x0 x1 x2 x3) (head3_at x0 x1 x2 x3) (head4_at x0 x1 x2 x3) (head5_at x0 x1 x2 x3) (head6_at x0 x1 x2 x3)
    (head7_at x0 x1 x2 x3) r m).trans ?_
  exact Finset.sum_congr rfl fun a _ => Finset.sum_congr rfl fun e _ => Finset.sum_congr rfl fun f _ =>
    congrArg (_ * ·) (rows_at i x4 j hj _ (off_rows i) _ _ m)

/-! ## The whole arrays -/

section
variable (q k v : Vec Ideal S1024x2048 .bf16) (g : Vec Ideal S128x2048 .f32) (w : Vec Ideal S8192x1024 .bf16)

/-- A head's score of two positions, from the whole arrays. -/
def scoreA (h : Fin 16) (s t : Fin 2048) : EReal :=
  ∑ f : Fin 64, q (ix2 ⟨h.val * 64 + f.val, by omega⟩ s) * k (ix2 ⟨h.val * 64 + f.val, by omega⟩ t)

/-- The unnormalised weight of two positions, from the whole arrays. -/
def weightA (h : Fin 16) (s t : Fin 2048) : EReal :=
  Ideal.exp (scoreA q k h s t - Finset.univ.fold max (Ideal.ofBits .f32 0xFF800000#32) fun u => scoreA q k h s u)

/-- A head's result gated by one expert, from the whole arrays. -/
def headA (h : Fin 16) (e : Fin 8) (f : Fin 64) (s : Fin 2048) : EReal :=
  g (ix2 ⟨h.val * 8 + e.val, by omega⟩ s) * Ideal.div 1 (∑ t, weightA q k h s t)
    * ∑ t, v (ix2 ⟨h.val * 64 + f.val, by omega⟩ t) * weightA q k h s t

/-- The output, from the whole arrays. -/
def attnA (s : Fin 2048) (m : Fin 1024) : EReal :=
  ∑ h : Fin 16, ∑ e : Fin 8, ∑ f : Fin 64, headA q k v g h e f s * w (ix2 ⟨h.val * 512 + e.val * 64 + f.val, by omega⟩ m)

end

variable (V : (c : Dev nD) → (b : Ref sig .tc) → Buf (Elt Ideal) ((c : Thread nD τ).loc b))

/-- The blocks' indices at each grid point. -/
theorem index1 : ∀ t : Fin cfg1.N, win1_0.index t 0 = t.val % 2 ∧ win1_0.index t 1 = t.val / 2 ∧ win1_1.index t 0 = t.val % 2
    ∧ win1_1.index t 1 = 0 ∧ win1_2.index t 0 = t.val % 2 ∧ win1_2.index t 1 = 0 ∧ win1_3.index t 0 = t.val % 2
    ∧ win1_3.index t 1 = t.val / 2 ∧ win1_4.index t 0 = 0 ∧ win1_4.index t 1 = 0 ∧ win1_5.index t 0 = t.val / 2 ∧ win1_5.index t 1 = 0
    ∧ (grid1.coords t 1).val = t.val % 2 := by
  decide +kernel

/-- A block of the queries at a grid point. -/
theorem iblk1_0_at (c : Dev nD) (t : Fin cfg1.N) (x : Fin 512) (y : Fin 256) (X : Fin 1024) (Y : Fin 2048)
    (hX : X.val = t.val % 2 * 512 + x.val) (hY : Y.val = t.val / 2 * 256 + y.val) :
    (iblk1 V c 0 t : (⟨2, ![512, 256]⟩ : Shape).Idx → EReal) (ix2 x y) = (V c (Pipeline.arrRef spec1 0) : (⟨2, ![1024, 2048]⟩ : Shape).Idx → EReal) (ix2 X Y) := by
  have hi := index1 t
  unfold iblk1
  rw [View.read_apply]
  show (V c (Pipeline.arrRef spec1 0) : (⟨2, ![1024, 2048]⟩ : Shape).Idx → EReal) _ = _
  congr 1
  funext a
  apply Fin.ext
  match a with
  | ⟨0, _⟩ => show win1_0.index t 0 * 512 + 1 * x.val = X.val; rw [show win1_0.index t 0 = t.val % 2 by tauto]; omega
  | ⟨1, _⟩ => show win1_0.index t 1 * 256 + 1 * y.val = Y.val; rw [show win1_0.index t 1 = t.val / 2 by tauto]; omega

/-- A block of the keys at a grid point. -/
theorem iblk1_1_at (c : Dev nD) (t : Fin cfg1.N) (x : Fin 512) (y : Fin 2048) (X : Fin 1024) (Y : Fin 2048)
    (hX : X.val = t.val % 2 * 512 + x.val) (hY : Y.val = 0 * 2048 + y.val) :
    (iblk1 V c 1 t : (⟨2, ![512, 2048]⟩ : Shape).Idx → EReal) (ix2 x y) = (V c (Pipeline.arrRef spec1 1) : (⟨2, ![1024, 2048]⟩ : Shape).Idx → EReal) (ix2 X Y) := by
  have hi := index1 t
  unfold iblk1
  rw [View.read_apply]
  show (V c (Pipeline.arrRef spec1 1) : (⟨2, ![1024, 2048]⟩ : Shape).Idx → EReal) _ = _
  congr 1
  funext a
  apply Fin.ext
  match a with
  | ⟨0, _⟩ => show win1_1.index t 0 * 512 + 1 * x.val = X.val; rw [show win1_1.index t 0 = t.val % 2 by tauto]; omega
  | ⟨1, _⟩ => show win1_1.index t 1 * 2048 + 1 * y.val = Y.val; rw [show win1_1.index t 1 = 0 by tauto]; omega

/-- A block of the values at a grid point. -/
theorem iblk1_2_at (c : Dev nD) (t : Fin cfg1.N) (x : Fin 512) (y : Fin 2048) (X : Fin 1024) (Y : Fin 2048)
    (hX : X.val = t.val % 2 * 512 + x.val) (hY : Y.val = 0 * 2048 + y.val) :
    (iblk1 V c 2 t : (⟨2, ![512, 2048]⟩ : Shape).Idx → EReal) (ix2 x y) = (V c (Pipeline.arrRef spec1 2) : (⟨2, ![1024, 2048]⟩ : Shape).Idx → EReal) (ix2 X Y) := by
  have hi := index1 t
  unfold iblk1
  rw [View.read_apply]
  show (V c (Pipeline.arrRef spec1 2) : (⟨2, ![1024, 2048]⟩ : Shape).Idx → EReal) _ = _
  congr 1
  funext a
  apply Fin.ext
  match a with
  | ⟨0, _⟩ => show win1_2.index t 0 * 512 + 1 * x.val = X.val; rw [show win1_2.index t 0 = t.val % 2 by tauto]; omega
  | ⟨1, _⟩ => show win1_2.index t 1 * 2048 + 1 * y.val = Y.val; rw [show win1_2.index t 1 = 0 by tauto]; omega

/-- A block of the gates at a grid point. -/
theorem iblk1_3_at (c : Dev nD) (t : Fin cfg1.N) (x : Fin 64) (y : Fin 256) (X : Fin 128) (Y : Fin 2048)
    (hX : X.val = t.val % 2 * 64 + x.val) (hY : Y.val = t.val / 2 * 256 + y.val) :
    (iblk1 V c 3 t : (⟨2, ![64, 256]⟩ : Shape).Idx → EReal) (ix2 x y) = (V c (Pipeline.arrRef spec1 3) : (⟨2, ![128, 2048]⟩ : Shape).Idx → EReal) (ix2 X Y) := by
  have hi := index1 t
  unfold iblk1
  rw [View.read_apply]
  show (V c (Pipeline.arrRef spec1 3) : (⟨2, ![128, 2048]⟩ : Shape).Idx → EReal) _ = _
  congr 1
  funext a
  apply Fin.ext
  match a with
  | ⟨0, _⟩ => show win1_3.index t 0 * 64 + 1 * x.val = X.val; rw [show win1_3.index t 0 = t.val % 2 by tauto]; omega
  | ⟨1, _⟩ => show win1_3.index t 1 * 256 + 1 * y.val = Y.val; rw [show win1_3.index t 1 = t.val / 2 by tauto]; omega

/-- A block of the output weights at a grid point. -/
theorem iblk1_4_at (c : Dev nD) (t : Fin cfg1.N) (x : Fin 8192) (y : Fin 1024) (X : Fin 8192) (Y : Fin 1024)
    (hX : X.val = 0 * 8192 + x.val) (hY : Y.val = 0 * 1024 + y.val) :
    (iblk1 V c 4 t : (⟨2, ![8192, 1024]⟩ : Shape).Idx → EReal) (ix2 x y) = (V c (Pipeline.arrRef spec1 4) : (⟨2, ![8192, 1024]⟩ : Shape).Idx → EReal) (ix2 X Y) := by
  have hi := index1 t
  unfold iblk1
  rw [View.read_apply]
  show (V c (Pipeline.arrRef spec1 4) : (⟨2, ![8192, 1024]⟩ : Shape).Idx → EReal) _ = _
  congr 1
  funext a
  apply Fin.ext
  match a with
  | ⟨0, _⟩ => show win1_4.index t 0 * 8192 + 1 * x.val = X.val; rw [show win1_4.index t 0 = 0 by tauto]; omega
  | ⟨1, _⟩ => show win1_4.index t 1 * 1024 + 1 * y.val = Y.val; rw [show win1_4.index t 1 = 0 by tauto]; omega

/-- The array the attention call should leave. -/
def attnOut (c : Dev nD) : Vec Ideal S2048x1024 .f32 := fun i =>
  attnA (V c (Pipeline.arrRef spec1 0)) (V c (Pipeline.arrRef spec1 1)) (V c (Pipeline.arrRef spec1 2)) (V c (Pipeline.arrRef spec1 3))
    (V c (Pipeline.arrRef spec1 4)) (i 0) (i 1)

/-- A point's partial product, from the whole arrays. -/
theorem partial_block (c : Dev nD) (t : Fin cfg1.N) (j : Fin 2) (hj : t.val % 2 = j.val) (r : Fin 256) (m : Fin 1024) (s : Fin 2048)
    (hs : s.val = t.val / 2 * 256 + r.val) :
    partialOf (iblk1 V c 0 t) (iblk1 V c 1 t) (iblk1 V c 2 t) (iblk1 V c 3 t) (iblk1 V c 4 t) j r m
      = ∑ a : Fin 8, ∑ e : Fin 8, ∑ f : Fin 64,
          headA (V c (Pipeline.arrRef spec1 0)) (V c (Pipeline.arrRef spec1 1)) (V c (Pipeline.arrRef spec1 2)) (V c (Pipeline.arrRef spec1 3))
            ⟨j.val * 8 + a.val, by omega⟩ e f s
          * (V c (Pipeline.arrRef spec1 4) : (⟨2, ![8192, 1024]⟩ : Shape).Idx → EReal)
              (ix2 ⟨(j.val * 8 + a.val) * 512 + e.val * 64 + f.val, by omega⟩ m) := by
  have hsc : ∀ (a : Fin 8) (u : Fin 2048), scoreOf (iblk1 V c 0 t) (iblk1 V c 1 t) a r u
      = scoreA (V c (Pipeline.arrRef spec1 0)) (V c (Pipeline.arrRef spec1 1)) ⟨j.val * 8 + a.val, by omega⟩ s u := fun a u =>
    Finset.sum_congr rfl fun f _ => congrArg₂ (· * ·)
      (iblk1_0_at V c t _ r _ s (by dsimp only; omega) hs)
      (iblk1_1_at V c t _ u _ u (by dsimp only; omega) (by omega))
  have hw : ∀ (a : Fin 8) (u : Fin 2048), weightOf (iblk1 V c 0 t) (iblk1 V c 1 t) a r u
      = weightA (V c (Pipeline.arrRef spec1 0)) (V c (Pipeline.arrRef spec1 1)) ⟨j.val * 8 + a.val, by omega⟩ s u := fun a u => by
    unfold weightOf weightA
    simp only [hsc]
  unfold partialOf
  refine Finset.sum_congr rfl fun a _ => Finset.sum_congr rfl fun e _ => Finset.sum_congr rfl fun f _ => congrArg₂ (· * ·) ?_
    (iblk1_4_at V c t _ m _ m (by dsimp only; omega) (by omega))
  unfold headOf headA
  simp only [hw]
  refine congrArg₂ (· * ·) (congrArg (· * _) (iblk1_3_at V c t _ r _ s (by dsimp only; omega) hs)) ?_
  exact Finset.sum_congr rfl fun u _ => congrArg (· * _) (iblk1_2_at V c t _ u _ u (by dsimp only; omega) (by omega))

/-- A sum over 16 heads is the sum over the first eight and the sum over the last eight. -/
theorem sum_heads (F : Fin 16 → EReal) : ∑ h, F h = ∑ a : Fin 8, F ⟨(0 : Fin 2).val * 8 + a.val, by omega⟩
    + ∑ a : Fin 8, F ⟨(1 : Fin 2).val * 8 + a.val, by omega⟩ := by
  rw [Fin.sum_univ_add (a := 8) (b := 8) F]
  refine congrArg₂ (· + ·) (Finset.sum_congr rfl fun a _ => congrArg F (Fin.ext ?_)) (Finset.sum_congr rfl fun a _ => congrArg F (Fin.ext ?_))
  · show a.val = 0 * 8 + a.val; omega
  · show 8 + a.val = 1 * 8 + a.val; omega

/-- After an even point the output block holds the point's partial product. -/
theorem outsAt1_even (c : Dev nD) (t : Fin cfg1.N) (ht : t.val % 2 = 0) (r : Fin 256) (m : Fin 1024) :
    outsAt1 V c t.val t.isLt (ix2 r m)
      = partialOf (iblk1 V c 0 t) (iblk1 V c 1 t) (iblk1 V c 2 t) (iblk1 V c 3 t) (iblk1 V c 4 t) 0 r m := by
  rw [outsAt1_A V c t ht (by omega)]
  exact out1_A_at c (grid1.coords t) _ _ _ _ _ _ _ _ _ _ _ _ _ _ _ _ _ _ _ 0
    ((index1 t).2.2.2.2.2.2.2.2.2.2.2.2.trans (by show _ = 0; omega)) r m

/-- At an odd point the point's partial product is added. -/
theorem outsAt1_step (c : Dev nD) (t : Fin cfg1.N) (ht : t.val % 2 = 1) (r : Fin 256) (m : Fin 1024) :
    outsAt1 V c t.val t.isLt (ix2 r m) = outsAt1 V c (t.val - 1) (Nat.lt_of_le_of_lt (Nat.sub_le _ _) t.isLt) (ix2 r m)
      + partialOf (iblk1 V c 0 t) (iblk1 V c 1 t) (iblk1 V c 2 t) (iblk1 V c 3 t) (iblk1 V c 4 t) 1 r m := by
  rw [outsAt1_B V c t (by omega) ht]
  generalize outsAt1 V c (t.val - 1) (Nat.lt_of_le_of_lt (Nat.sub_le _ _) t.isLt) = old
  exact out1_B_at c (grid1.coords t) _ _ _ _ _ _ _ _ _ _ _ _ _ _ _ _ _ _ _ old 1
    ((index1 t).2.2.2.2.2.2.2.2.2.2.2.2.trans ht) r m

/-- After an odd point the output block holds the finished rows. -/
theorem outsAt1_odd (c : Dev nD) (t : Fin cfg1.N) (ht : t.val % 2 = 1) (r : Fin 256) (m : Fin 1024) (s : Fin 2048)
    (hs : s.val = t.val / 2 * 256 + r.val) : outsAt1 V c t.val t.isLt (ix2 r m) = attnOut V c (ix2 s m) := by
  have hu := outsAt1_even V c ⟨t.val - 1, Nat.lt_of_le_of_lt (Nat.sub_le _ _) t.isLt⟩ (by dsimp only; omega) r m
  have hp := partial_block V c ⟨t.val - 1, Nat.lt_of_le_of_lt (Nat.sub_le _ _) t.isLt⟩ 0 (by show (t.val - 1) % 2 = 0; omega) r m s
    (by dsimp only; omega)
  rw [outsAt1_step V c t ht, partial_block V c t 1 ht r m s hs]
  refine (congrArg (· + _) (hu.trans hp)).trans ?_
  unfold attnOut attnA
  rw [sum_heads]
  rfl

/-- An odd point writes its rows of the output. -/
theorem flushed1 (c : Dev nD) (t : Fin cfg1.N) (hf : (cfg1.win 5).flush t = true) :
    (dat1 V c).flushed 5 t = ((cfg1.win 5).blk t).view.read (Elt Ideal) (attnOut V c) := by
  have ht := (flush1_5 t).mp hf
  have hN : t.val < 16 := Nat.lt_of_lt_of_eq t.isLt N_1
  have hi := index1 t
  show (cfg1.win 5).cut (grid1.coords t) ((dat1 V c).after 5 t) = _
  rw [after1_5]
  funext y
  have hy : y = ix2 (y 0) (y 1) := by funext a; match a with | ⟨0, _⟩ => rfl | ⟨1, _⟩ => rfl
  have hr : (y 0 : Nat) < 256 := (y 0).isLt
  have hm : (y 1 : Nat) < 1024 := (y 1).isLt
  rw [View.read_apply]
  refine (show _ = outsAt1 V c t.val t.isLt (ix2 ⟨(y 0 : Nat), hr⟩ ⟨(y 1 : Nat), hm⟩) from ?_).trans
    ((outsAt1_odd V c t ht ⟨(y 0 : Nat), hr⟩ ⟨(y 1 : Nat), hm⟩ ⟨t.val / 2 * 256 + (y 0 : Nat), by omega⟩ rfl).trans ?_)
  · show outsAt1 V c t.val t.isLt _ = _
    congr 1
  · show attnOut V c _ = attnOut V c _
    congr 1
    funext a
    apply Fin.ext
    match a with
    | ⟨0, _⟩ => show t.val / 2 * 256 + (y 0 : Nat) = win1_5.index t 0 * 256 + 1 * (y 0 : Nat); rw [show win1_5.index t 0 = t.val / 2 by tauto]; omega
    | ⟨1, _⟩ => show (y 1 : Nat) = win1_5.index t 1 * 1024 + 1 * (y 1 : Nat); rw [show win1_5.index t 1 = 0 by tauto]; omega

/-- The attention call's output array. -/
theorem arr1 (c : Dev nD) : (dat1 V c).arrAt 5 cfg1.N = attnOut V c :=
  (dat1 V c).arrAt_eq_of_cover 5 (attnOut V c) (flushed1 V c) fun i => by
    have h0 : (i 0 : Nat) < 2048 := (i 0).isLt
    have h1 : (i 1 : Nat) < 1024 := (i 1).isLt
    have hN : cfg1.N = 16 := N_1
    let t : Fin cfg1.N := ⟨(i 0 : Nat) / 256 * 2 + 1, by omega⟩
    have ht : t.val = (i 0 : Nat) / 256 * 2 + 1 := rfl
    have hi := index1 t
    refine ⟨t, (flush1_5 t).mpr (by omega), ?_⟩
    show i ∈ ((View.whole main_v15).slice (win1_5.rect t)).set
    rw [View.set_slice_whole, Rect.mem_set_unit]
    intro a
    match a with
    | ⟨0, _⟩ =>
      show win1_5.index t 0 * 256 ≤ (i 0 : Nat) ∧ (i 0 : Nat) < win1_5.index t 0 * 256 + 256
      rw [show win1_5.index t 0 = t.val / 2 by tauto]; omega
    | ⟨1, _⟩ =>
      show win1_5.index t 1 * 1024 ≤ (i 1 : Nat) ∧ (i 1 : Nat) < win1_5.index t 1 * 1024 + 1024
      rw [show win1_5.index t 1 = 0 by tauto]; omega

end Cert.KernelIdeal.Att

end
-- ==== Proof.KernelIdeal.ProjectionBlock.lean ====
/- What the body of the projection call computes from its blocks, at an index. -/
module

public import proofs.«01_k».proof.Proof.Gen.KernelIdeal.Skeleton
public import proofs.«01_k».proof.Proof.Gate

@[expose] public section

noncomputable section

namespace Cert.KernelIdeal.Att

open Cert.KernelIdeal Cert.KernelIdeal.Gen
open Idealize.ShloMosaic Idealize.ShloMosaic.Pointwise

/-- The projected queries of a block. -/
theorem projQ_at (x : Vec Ideal S512x1024 .f32) (w : Vec Ideal S1024x1024 .bf16) (c : Fin 1024) (s : Fin 512) :
    k0_pay4 (F := Ideal) x w (ix2 c s) = ∑ d : Fin 1024, w (ix2 c d) * x (ix2 s d) := by
  pointwise [k0_pay4, k0_pay2]

/-- The projected keys of a block. -/
theorem projK_at (x : Vec Ideal S512x1024 .f32) (w : Vec Ideal S1024x1024 .bf16) (c : Fin 1024) (s : Fin 512) :
    k0_pay5 (F := Ideal) x w (ix2 c s) = ∑ d : Fin 1024, w (ix2 c d) * x (ix2 s d) := by
  pointwise [k0_pay5, k0_pay3]

/-- The logits of the output selection of a block. -/
theorem logitO_at (x : Vec Ideal S512x1024 .f32) (w : Vec Ideal S128x1024 .f32) (n : Fin 128) (s : Fin 512) :
    k0_pay6 (F := Ideal) x w (ix2 n s) = ∑ d : Fin 1024, w (ix2 n d) * x (ix2 s d) := by
  pointwise [k0_pay6, k0_pay2]

/-- The output gates, from the logits: the masked-maximum gate of the sigmoids of a group. -/
theorem gateOf_at (y : FVec Ideal S128x512 .f32) (h : Fin 16) (e : Fin 8) (s : Fin 512) :
    k0_pay9 (F := Ideal) y (ix2 ⟨h.val * 8 + e.val, by omega⟩ s)
      = Gate.maskedGate (fun e => Ideal.logistic (y (ix2 ⟨h.val * 8 + e.val, by omega⟩ s))) e := by
  unfold Gate.maskedGate Gate.masked Gate.firstPeak Gate.peak
  pointwise [k0_pay9]

/-- The sigmoids of the value selection of a block. -/
theorem sigV_block_at (x : Vec Ideal S512x1024 .f32) (w : Vec Ideal S128x1024 .f32) (h : Fin 16) (e : Fin 8) (s : Fin 512) :
    k0_pay7 (F := Ideal) x w (ix3 h e s) = Ideal.logistic (∑ d : Fin 1024, w (ix2 ⟨h.val * 8 + e.val, by omega⟩ d) * x (ix2 s d)) := by
  pointwise [k0_pay7, k0_pay3]

/-- Whether a position is the first of the greatest of its group. -/
theorem firstV_at (x : Vec Ideal S512x1024 .f32) (w : Vec Ideal S128x1024 .f32) (h : Fin 16) (e : Fin 8) (s : Fin 512) :
    k0_pay8 (F := Ideal) x w (ix3 h e s)
      = IntOp.cmpi .eq (BitVec.ofNat 32 e.val) (Gate.firstPeak (fun e => k0_pay7 (F := Ideal) x w (ix3 h e s))) := by
  unfold k0_pay8 Gate.firstPeak Gate.peak
  generalize k0_pay7 (F := Ideal) x w = y
  pointwise []

/-- The gated values of a block. -/
theorem valueOf_at (y : FVec Ideal S16x8x512 .f32) (z : IVec S16x8x512 1)
    (hz : ∀ h e s, z (ix3 h e s) = IntOp.cmpi .eq (BitVec.ofNat 32 e.val) (Gate.firstPeak (fun e => y (ix3 h e s))))
    (wv : Vec Ideal S1024x8192 .bf16) (x : Vec Ideal S512x1024 .f32) (h : Fin 16) (f : Fin 64) (s : Fin 512) :
    k0_pay1 (F := Ideal) (k0_pay10 (F := Ideal) y z (Scalar.ofBits .f32 0xBF800000#32) wv x) (ix2 ⟨h.val * 64 + f.val, by omega⟩ s)
      = ∑ e : Fin 8, (∑ d : Fin 1024, wv (ix2 d ⟨h.val * 512 + e.val * 64 + f.val, by omega⟩) * x (ix2 s d))
          * Gate.maskedGate (fun e => y (ix3 h e s)) e := by
  unfold Gate.maskedGate Gate.masked Gate.peak
  pointwise [k0_pay1, k0_pay10]
  simp only [hz]
  done

end Cert.KernelIdeal.Att

end
-- ==== Proof.KernelIdeal.ProjectionValue.lean ====
/- What the projection call leaves in its four output arrays, as functions of the arrays it is given. -/
module

public import proofs.«01_k».proof.Proof.KernelIdeal.Projection
public import proofs.«01_k».proof.Proof.KernelIdeal.ProjectionBlock
public import Idealize.ShloMosaic.Lib.Pipeline.Value

@[expose] public section

noncomputable section

namespace Cert.KernelIdeal.Att

open Cert.KernelIdeal Cert.KernelIdeal.Gen
open Idealize.ShloMosaic Idealize.ShloMosaic.TcCoe Idealize.ShloMosaic.Pointwise
open Idealize.ShloMosaic.Pipeline (Dat)

/-- Two zero offsets. -/
theorem origin2 : (![0, 0] : Fin 2 → Nat) = fun _ => 0 := funext fun a => by fin_cases a <;> rfl

section
variable (x0 x1 x2 : Vec Ideal S512x1024 .f32) (x3 x4 : Vec Ideal S1024x1024 .bf16) (x5 x6 : Vec Ideal S128x1024 .f32) (x7 : Vec Ideal S1024x8192 .bf16)

/-- The query block at an index. -/
theorem out0_8_at (c : Fin 1024) (r : Fin 512) :
    out0_8 x0 x1 x2 x3 x4 x5 x6 x7 (ix2 c r) = ∑ d : Fin 1024, x3 (ix2 c d) * x0 (ix2 r d) := by
  unfold out0_8 r0_0 r0_1 r0_2
  rw [View.canon_unit_zero origin2, View.ld_unit_zero (S := S512x1024) origin2, View.ld_unit_zero (S := S1024x1024) origin2]
  exact projQ_at x0 x3 c r

/-- The key block at an index. -/
theorem out0_9_at (c : Fin 1024) (r : Fin 512) :
    out0_9 x0 x1 x2 x3 x4 x5 x6 x7 (ix2 c r) = ∑ d : Fin 1024, x4 (ix2 c d) * x1 (ix2 r d) := by
  unfold out0_9 r0_0 r0_1 r0_2
  rw [View.canon_unit_zero origin2, View.ld_unit_zero (S := S512x1024) origin2, View.ld_unit_zero (S := S1024x1024) origin2]
  exact projK_at x1 x4 c r

/-- The value block at an index. -/
theorem out0_10_at (h : Fin 16) (f : Fin 64) (r : Fin 512) :
    out0_10 x0 x1 x2 x3 x4 x5 x6 x7 (ix2 ⟨h.val * 64 + f.val, by omega⟩ r)
      = ∑ e : Fin 8, (∑ d : Fin 1024, x7 (ix2 d ⟨h.val * 512 + e.val * 64 + f.val, by omega⟩) * x2 (ix2 r d))
          * Gate.maskedGate (fun e => Ideal.logistic (∑ d : Fin 1024, x5 (ix2 ⟨h.val * 8 + e.val, by omega⟩ d) * x1 (ix2 r d))) e := by
  unfold out0_10 r0_0 r0_2 r0_3 r0_5
  rw [View.canon_unit_zero origin2, View.ld_unit_zero (S := S512x1024) origin2, View.ld_unit_zero (S := S512x1024) origin2,
    View.ld_unit_zero (S := S128x1024) origin2, View.ld_unit_zero (S := S1024x8192) origin2]
  refine (valueOf_at _ _ (firstV_at x1 x5) x7 x2 h f r).trans ?_
  simp only [sigV_block_at]

/-- The output-gate block at an index. -/
theorem out0_11_at (h : Fin 16) (e : Fin 8) (r : Fin 512) :
    out0_11 x0 x1 x2 x3 x4 x5 x6 x7 (ix2 ⟨h.val * 8 + e.val, by omega⟩ r)
      = Gate.maskedGate (fun e => Ideal.logistic (∑ d : Fin 1024, x6 (ix2 ⟨h.val * 8 + e.val, by omega⟩ d) * x0 (ix2 r d))) e := by
  unfold out0_11 r0_0 r0_3 r0_4
  rw [View.canon_unit_zero origin2, View.ld_unit_zero (S := S512x1024) origin2, View.ld_unit_zero (S := S128x1024) origin2]
  refine (gateOf_at _ h e r).trans ?_
  simp only [logitO_at]

end

/-! ## The whole arrays -/

section
variable (x : Vec Ideal S2048x1024 .f32) (y : Vec Ideal S2048x1024 .f32)

/-- The projected queries or keys, from the whole arrays. -/
def projA (w : Vec Ideal S1024x1024 .bf16) (c : Fin 1024) (s : Fin 2048) : EReal := ∑ d : Fin 1024, w (ix2 c d) * x (ix2 s d)

/-- The gates, from the whole arrays. -/
def gateA (w : Vec Ideal S128x1024 .f32) (h : Fin 16) (e : Fin 8) (s : Fin 2048) : EReal :=
  Gate.maskedGate (fun e => Ideal.logistic (∑ d : Fin 1024, w (ix2 ⟨h.val * 8 + e.val, by omega⟩ d) * x (ix2 s d))) e

/-- The gated values, from the whole arrays. -/
def valueA (w : Vec Ideal S128x1024 .f32) (wv : Vec Ideal S1024x8192 .bf16) (h : Fin 16) (f : Fin 64) (s : Fin 2048) : EReal :=
  ∑ e : Fin 8, (∑ d : Fin 1024, wv (ix2 d ⟨h.val * 512 + e.val * 64 + f.val, by omega⟩) * y (ix2 s d)) * gateA x w h e s

end

variable (V : (c : Dev nD) → (b : Ref sig .tc) → Buf (Elt Ideal) ((c : Thread nD τ).loc b))

/-- Window 0's block index at each grid point. -/
theorem index0_0 : ∀ t : Fin cfg0.N, win0_0.index t 0 = t.val ∧ win0_0.index t 1 = 0 := by decide +kernel

/-- Window 1's block index at each grid point. -/
theorem index0_1 : ∀ t : Fin cfg0.N, win0_1.index t 0 = t.val ∧ win0_1.index t 1 = 0 := by decide +kernel

/-- Window 2's block index at each grid point. -/
theorem index0_2 : ∀ t : Fin cfg0.N, win0_2.index t 0 = t.val ∧ win0_2.index t 1 = 0 := by decide +kernel

/-- Window 3's block index at each grid point. -/
theorem index0_3 : ∀ t : Fin cfg0.N, win0_3.index t 0 = 0 ∧ win0_3.index t 1 = 0 := by decide +kernel

/-- Window 4's block index at each grid point. -/
theorem index0_4 : ∀ t : Fin cfg0.N, win0_4.index t 0 = 0 ∧ win0_4.index t 1 = 0 := by decide +kernel

/-- Window 5's block index at each grid point. -/
theorem index0_5 : ∀ t : Fin cfg0.N, win0_5.index t 0 = 0 ∧ win0_5.index t 1 = 0 := by decide +kernel

/-- Window 6's block index at each grid point. -/
theorem index0_6 : ∀ t : Fin cfg0.N, win0_6.index t 0 = 0 ∧ win0_6.index t 1 = 0 := by decide +kernel

/-- Window 7's block index at each grid point. -/
theorem index0_7 : ∀ t : Fin cfg0.N, win0_7.index t 0 = 0 ∧ win0_7.index t 1 = 0 := by decide +kernel

/-- Window 8's block index at each grid point. -/
theorem index0_8 : ∀ t : Fin cfg0.N, win0_8.index t 0 = 0 ∧ win0_8.index t 1 = t.val := by decide +kernel

/-- Window 9's block index at each grid point. -/
theorem index0_9 : ∀ t : Fin cfg0.N, win0_9.index t 0 = 0 ∧ win0_9.index t 1 = t.val := by decide +kernel

/-- Window 10's block index at each grid point. -/
theorem index0_10 : ∀ t : Fin cfg0.N, win0_10.index t 0 = 0 ∧ win0_10.index t 1 = t.val := by decide +kernel

/-- Window 11's block index at each grid point. -/
theorem index0_11 : ∀ t : Fin cfg0.N, win0_11.index t 0 = 0 ∧ win0_11.index t 1 = t.val := by decide +kernel

/-- The array of the query inputs. -/
def arrIn0 (c : Dev nD) : Vec Ideal S2048x1024 .f32 := V c (Pipeline.arrRef spec0 0)

/-- A block of the query inputs. -/
def blkIn0 (c : Dev nD) (t : Fin cfg0.N) : Vec Ideal S512x1024 .f32 := iblk0 V c 0 t

/-- A block of the query inputs at an index. -/
theorem blkIn0_at (c : Dev nD) (t : Fin cfg0.N) (x : Fin 512) (y : Fin 1024) (X : Fin 2048) (hX : X.val = t.val * 512 + x.val) :
    blkIn0 V c t (ix2 x y) = arrIn0 V c (ix2 X y) := by
  unfold blkIn0 iblk0
  rw [View.read_apply]
  show arrIn0 V c _ = _
  congr 1
  funext a
  apply Fin.ext
  match a with
  | ⟨0, _⟩ => show win0_0.index t 0 * 512 + 1 * x.val = X.val; rw [(index0_0 t).1]; omega
  | ⟨1, _⟩ => show win0_0.index t 1 * 1024 + 1 * y.val = y.val; rw [(index0_0 t).2]; omega

/-- The array of the key inputs. -/
def arrIn1 (c : Dev nD) : Vec Ideal S2048x1024 .f32 := V c (Pipeline.arrRef spec0 1)

/-- A block of the key inputs. -/
def blkIn1 (c : Dev nD) (t : Fin cfg0.N) : Vec Ideal S512x1024 .f32 := iblk0 V c 1 t

/-- A block of the key inputs at an index. -/
theorem blkIn1_at (c : Dev nD) (t : Fin cfg0.N) (x : Fin 512) (y : Fin 1024) (X : Fin 2048) (hX : X.val = t.val * 512 + x.val) :
    blkIn1 V c t (ix2 x y) = arrIn1 V c (ix2 X y) := by
  unfold blkIn1 iblk0
  rw [View.read_apply]
  show arrIn1 V c _ = _
  congr 1
  funext a
  apply Fin.ext
  match a with
  | ⟨0, _⟩ => show win0_1.index t 0 * 512 + 1 * x.val = X.val; rw [(index0_1 t).1]; omega
  | ⟨1, _⟩ => show win0_1.index t 1 * 1024 + 1 * y.val = y.val; rw [(index0_1 t).2]; omega

/-- The array of the value inputs. -/
def arrIn2 (c : Dev nD) : Vec Ideal S2048x1024 .f32 := V c (Pipeline.arrRef spec0 2)

/-- A block of the value inputs. -/
def blkIn2 (c : Dev nD) (t : Fin cfg0.N) : Vec Ideal S512x1024 .f32 := iblk0 V c 2 t

/-- A block of the value inputs at an index. -/
theorem blkIn2_at (c : Dev nD) (t : Fin cfg0.N) (x : Fin 512) (y : Fin 1024) (X : Fin 2048) (hX : X.val = t.val * 512 + x.val) :
    blkIn2 V c t (ix2 x y) = arrIn2 V c (ix2 X y) := by
  unfold blkIn2 iblk0
  rw [View.read_apply]
  show arrIn2 V c _ = _
  congr 1
  funext a
  apply Fin.ext
  match a with
  | ⟨0, _⟩ => show win0_2.index t 0 * 512 + 1 * x.val = X.val; rw [(index0_2 t).1]; omega
  | ⟨1, _⟩ => show win0_2.index t 1 * 1024 + 1 * y.val = y.val; rw [(index0_2 t).2]; omega

/-- The array of the query weights. -/
def arrIn3 (c : Dev nD) : Vec Ideal S1024x1024 .bf16 := V c (Pipeline.arrRef spec0 3)

/-- A block of the query weights. -/
def blkIn3 (c : Dev nD) (t : Fin cfg0.N) : Vec Ideal S1024x1024 .bf16 := iblk0 V c 3 t

/-- A block of the query weights at an index. -/
theorem blkIn3_at (c : Dev nD) (t : Fin cfg0.N) (x : Fin 1024) (y : Fin 1024) (X : Fin 1024) (hX : X.val = 0 * 1024 + x.val) :
    blkIn3 V c t (ix2 x y) = arrIn3 V c (ix2 X y) := by
  unfold blkIn3 iblk0
  rw [View.read_apply]
  show arrIn3 V c _ = _
  congr 1
  funext a
  apply Fin.ext
  match a with
  | ⟨0, _⟩ => show win0_3.index t 0 * 1024 + 1 * x.val = X.val; rw [(index0_3 t).1]; omega
  | ⟨1, _⟩ => show win0_3.index t 1 * 1024 + 1 * y.val = y.val; rw [(index0_3 t).2]; omega

/-- The array of the key weights. -/
def arrIn4 (c : Dev nD) : Vec Ideal S1024x1024 .bf16 := V c (Pipeline.arrRef spec0 4)

/-- A block of the key weights. -/
def blkIn4 (c : Dev nD) (t : Fin cfg0.N) : Vec Ideal S1024x1024 .bf16 := iblk0 V c 4 t

/-- A block of the key weights at an index. -/
theorem blkIn4_at (c : Dev nD) (t : Fin cfg0.N) (x : Fin 1024) (y : Fin 1024) (X : Fin 1024) (hX : X.val = 0 * 1024 + x.val) :
    blkIn4 V c t (ix2 x y) = arrIn4 V c (ix2 X y) := by
  unfold blkIn4 iblk0
  rw [View.read_apply]
  show arrIn4 V c _ = _
  congr 1
  funext a
  apply Fin.ext
  match a with
  | ⟨0, _⟩ => show win0_4.index t 0 * 1024 + 1 * x.val = X.val; rw [(index0_4 t).1]; omega
  | ⟨1, _⟩ => show win0_4.index t 1 * 1024 + 1 * y.val = y.val; rw [(index0_4 t).2]; omega

/-- The array of the value selection. -/
def arrIn5 (c : Dev nD) : Vec Ideal S128x1024 .f32 := V c (Pipeline.arrRef spec0 5)

/-- A block of the value selection. -/
def blkIn5 (c : Dev nD) (t : Fin cfg0.N) : Vec Ideal S128x1024 .f32 := iblk0 V c 5 t

/-- A block of the value selection at an index. -/
theorem blkIn5_at (c : Dev nD) (t : Fin cfg0.N) (x : Fin 128) (y : Fin 1024) (X : Fin 128) (hX : X.val = 0 * 128 + x.val) :
    blkIn5 V c t (ix2 x y) = arrIn5 V c (ix2 X y) := by
  unfold blkIn5 iblk0
  rw [View.read_apply]
  show arrIn5 V c _ = _
  congr 1
  funext a
  apply Fin.ext
  match a with
  | ⟨0, _⟩ => show win0_5.index t 0 * 128 + 1 * x.val = X.val; rw [(index0_5 t).1]; omega
  | ⟨1, _⟩ => show win0_5.index t 1 * 1024 + 1 * y.val = y.val; rw [(index0_5 t).2]; omega

/-- The array of the output selection. -/
def arrIn6 (c : Dev nD) : Vec Ideal S128x1024 .f32 := V c (Pipeline.arrRef spec0 6)

/-- A block of the output selection. -/
def blkIn6 (c : Dev nD) (t : Fin cfg0.N) : Vec Ideal S128x1024 .f32 := iblk0 V c 6 t

/-- A block of the output selection at an index. -/
theorem blkIn6_at (c : Dev nD) (t : Fin cfg0.N) (x : Fin 128) (y : Fin 1024) (X : Fin 128) (hX : X.val = 0 * 128 + x.val) :
    blkIn6 V c t (ix2 x y) = arrIn6 V c (ix2 X y) := by
  unfold blkIn6 iblk0
  rw [View.read_apply]
  show arrIn6 V c _ = _
  congr 1
  funext a
  apply Fin.ext
  match a with
  | ⟨0, _⟩ => show win0_6.index t 0 * 128 + 1 * x.val = X.val; rw [(index0_6 t).1]; omega
  | ⟨1, _⟩ => show win0_6.index t 1 * 1024 + 1 * y.val = y.val; rw [(index0_6 t).2]; omega

/-- The array of the value weights. -/
def arrIn7 (c : Dev nD) : Vec Ideal S1024x8192 .bf16 := V c (Pipeline.arrRef spec0 7)

/-- A block of the value weights. -/
def blkIn7 (c : Dev nD) (t : Fin cfg0.N) : Vec Ideal S1024x8192 .bf16 := iblk0 V c 7 t

/-- A block of the value weights at an index. -/
theorem blkIn7_at (c : Dev nD) (t : Fin cfg0.N) (x : Fin 1024) (y : Fin 8192) (X : Fin 1024) (hX : X.val = 0 * 1024 + x.val) :
    blkIn7 V c t (ix2 x y) = arrIn7 V c (ix2 X y) := by
  unfold blkIn7 iblk0
  rw [View.read_apply]
  show arrIn7 V c _ = _
  congr 1
  funext a
  apply Fin.ext
  match a with
  | ⟨0, _⟩ => show win0_7.index t 0 * 1024 + 1 * x.val = X.val; rw [(index0_7 t).1]; omega
  | ⟨1, _⟩ => show win0_7.index t 1 * 8192 + 1 * y.val = y.val; rw [(index0_7 t).2]; omega

/-- The projected queries the call should leave. -/
def queryOut (c : Dev nD) : Vec Ideal S1024x2048 .bf16 := fun i => projA (arrIn0 V c) (arrIn3 V c) (i 0) (i 1)

/-- The projected keys the call should leave. -/
def keyOut (c : Dev nD) : Vec Ideal S1024x2048 .bf16 := fun i => projA (arrIn1 V c) (arrIn4 V c) (i 0) (i 1)

/-- The gated values the call should leave. -/
def valueOut (c : Dev nD) : Vec Ideal S1024x2048 .bf16 := fun i =>
  valueA (arrIn1 V c) (arrIn2 V c) (arrIn5 V c) (arrIn7 V c)
    ⟨(i 0).val / 64, by have h : (i 0).val < 1024 := (i 0).isLt; omega⟩ ⟨(i 0).val % 64, Nat.mod_lt _ (by decide)⟩ (i 1)

/-- The output gates the call should leave. -/
def gateOut (c : Dev nD) : Vec Ideal S128x2048 .f32 := fun i =>
  gateA (arrIn0 V c) (arrIn6 V c) ⟨(i 0).val / 8, by have h : (i 0).val < 128 := (i 0).isLt; omega⟩ ⟨(i 0).val % 8, Nat.mod_lt _ (by decide)⟩ (i 1)

/-- The gated values at an index. -/
theorem valueOut_at (c : Dev nD) (h : Fin 16) (f : Fin 64) (s : Fin 2048) (X : Fin 1024) (hX : X.val = h.val * 64 + f.val) :
    valueOut V c (ix2 X s) = valueA (arrIn1 V c) (arrIn2 V c) (arrIn5 V c) (arrIn7 V c) h f s := by
  unfold valueOut
  congr 1
  · exact Fin.ext (by show X.val / 64 = h.val; omega)
  · exact Fin.ext (by show X.val % 64 = f.val; omega)

/-- The output gates at an index. -/
theorem gateOut_at (c : Dev nD) (h : Fin 16) (e : Fin 8) (s : Fin 2048) (X : Fin 128) (hX : X.val = h.val * 8 + e.val) :
    gateOut V c (ix2 X s) = gateA (arrIn0 V c) (arrIn6 V c) h e s := by
  unfold gateOut
  congr 1
  · exact Fin.ext (by show X.val / 8 = h.val; omega)
  · exact Fin.ext (by show X.val % 8 = e.val; omega)

/-- A point's queries are the array's. -/
theorem block0_8 (c : Dev nD) (t : Fin cfg0.N) (x : Fin 1024) (r : Fin 512) (s : Fin 2048) (hs : s.val = t.val * 512 + r.val) :
    out0_8 (blkIn0 V c t) (blkIn1 V c t) (blkIn2 V c t) (blkIn3 V c t) (blkIn4 V c t) (blkIn5 V c t) (blkIn6 V c t) (blkIn7 V c t) (ix2 x r) = queryOut V c (ix2 x s) := by
  rw [out0_8_at]
  exact Finset.sum_congr rfl fun d _ => congrArg₂ (· * ·) (blkIn3_at V c t x d x (by omega)) (blkIn0_at V c t r d s hs)

/-- A point's keys are the array's. -/
theorem block0_9 (c : Dev nD) (t : Fin cfg0.N) (x : Fin 1024) (r : Fin 512) (s : Fin 2048) (hs : s.val = t.val * 512 + r.val) :
    out0_9 (blkIn0 V c t) (blkIn1 V c t) (blkIn2 V c t) (blkIn3 V c t) (blkIn4 V c t) (blkIn5 V c t) (blkIn6 V c t) (blkIn7 V c t) (ix2 x r) = keyOut V c (ix2 x s) := by
  rw [out0_9_at]
  exact Finset.sum_congr rfl fun d _ => congrArg₂ (· * ·) (blkIn4_at V c t x d x (by omega)) (blkIn1_at V c t r d s hs)

/-- Gates of a block's row are the gates of the array's row. -/
theorem gateA_congr (x : Vec Ideal S512x1024 .f32) (w : Vec Ideal S128x1024 .f32) (X : Vec Ideal S2048x1024 .f32) (W : Vec Ideal S128x1024 .f32)
    (r : Fin 512) (s : Fin 2048) (hx : ∀ d, x (ix2 r d) = X (ix2 s d)) (hw : ∀ n d, w (ix2 n d) = W (ix2 n d)) (h : Fin 16) (e : Fin 8) :
    Gate.maskedGate (fun e => Ideal.logistic (∑ d : Fin 1024, w (ix2 ⟨h.val * 8 + e.val, by omega⟩ d) * x (ix2 r d))) e = gateA X W h e s := by
  unfold gateA
  simp only [hx, hw]

/-- Gated values of a block's row are the gated values of the array's row. -/
theorem valueA_congr (x y : Vec Ideal S512x1024 .f32) (w : Vec Ideal S128x1024 .f32) (wv : Vec Ideal S1024x8192 .bf16) (X Y : Vec Ideal S2048x1024 .f32)
    (W : Vec Ideal S128x1024 .f32) (Wv : Vec Ideal S1024x8192 .bf16) (r : Fin 512) (s : Fin 2048) (hx : ∀ d, x (ix2 r d) = X (ix2 s d))
    (hy : ∀ d, y (ix2 r d) = Y (ix2 s d)) (hw : ∀ n d, w (ix2 n d) = W (ix2 n d)) (hv : ∀ n d, wv (ix2 n d) = Wv (ix2 n d)) (h : Fin 16) (f : Fin 64) :
    ∑ e : Fin 8, (∑ d : Fin 1024, wv (ix2 d ⟨h.val * 512 + e.val * 64 + f.val, by omega⟩) * y (ix2 r d))
          * Gate.maskedGate (fun e => Ideal.logistic (∑ d : Fin 1024, w (ix2 ⟨h.val * 8 + e.val, by omega⟩ d) * x (ix2 r d))) e
      = valueA X Y W Wv h f s := by
  unfold valueA
  simp only [gateA_congr x w X W r s hx hw, hy, hv]

/-- A point's values are the array's. -/
theorem block0_10 (c : Dev nD) (t : Fin cfg0.N) (x : Fin 1024) (r : Fin 512) (s : Fin 2048) (hs : s.val = t.val * 512 + r.val) :
    out0_10 (blkIn0 V c t) (blkIn1 V c t) (blkIn2 V c t) (blkIn3 V c t) (blkIn4 V c t) (blkIn5 V c t) (blkIn6 V c t) (blkIn7 V c t) (ix2 x r) = valueOut V c (ix2 x s) := by
  have hx : (⟨x.val / 64 * 64 + x.val % 64, by omega⟩ : Fin 1024) = x := Fin.ext (by dsimp only; omega)
  have h1 := out0_10_at (blkIn0 V c t) (blkIn1 V c t) (blkIn2 V c t) (blkIn3 V c t) (blkIn4 V c t) (blkIn5 V c t) (blkIn6 V c t) (blkIn7 V c t) ⟨x.val / 64, by omega⟩ ⟨x.val % 64, by omega⟩ r
  have h2 := valueA_congr (blkIn1 V c t) (blkIn2 V c t) (blkIn5 V c t) (blkIn7 V c t) (arrIn1 V c) (arrIn2 V c) (arrIn5 V c) (arrIn7 V c) r s
    (fun d => blkIn1_at V c t r d s hs) (fun d => blkIn2_at V c t r d s hs) (fun n d => blkIn5_at V c t n d n (by omega))
    (fun n d => blkIn7_at V c t n d n (by omega)) ⟨x.val / 64, by omega⟩ ⟨x.val % 64, by omega⟩
  have h3 := valueOut_at V c ⟨x.val / 64, by omega⟩ ⟨x.val % 64, by omega⟩ s x (congrArg Fin.val hx).symm
  exact ((congrArg (fun z => out0_10 (blkIn0 V c t) (blkIn1 V c t) (blkIn2 V c t) (blkIn3 V c t) (blkIn4 V c t) (blkIn5 V c t) (blkIn6 V c t) (blkIn7 V c t) (ix2 z r)) hx.symm).trans h1).trans (h2.trans h3.symm)

/-- A point's gates are the array's. -/
theorem block0_11 (c : Dev nD) (t : Fin cfg0.N) (x : Fin 128) (r : Fin 512) (s : Fin 2048) (hs : s.val = t.val * 512 + r.val) :
    out0_11 (blkIn0 V c t) (blkIn1 V c t) (blkIn2 V c t) (blkIn3 V c t) (blkIn4 V c t) (blkIn5 V c t) (blkIn6 V c t) (blkIn7 V c t) (ix2 x r) = gateOut V c (ix2 x s) := by
  have hx : (⟨x.val / 8 * 8 + x.val % 8, by omega⟩ : Fin 128) = x := Fin.ext (by dsimp only; omega)
  have h1 := out0_11_at (blkIn0 V c t) (blkIn1 V c t) (blkIn2 V c t) (blkIn3 V c t) (blkIn4 V c t) (blkIn5 V c t) (blkIn6 V c t) (blkIn7 V c t) ⟨x.val / 8, by omega⟩ ⟨x.val % 8, by omega⟩ r
  have h2 := gateA_congr (blkIn0 V c t) (blkIn6 V c t) (arrIn0 V c) (arrIn6 V c) r s
    (fun d => blkIn0_at V c t r d s hs) (fun n d => blkIn6_at V c t n d n (by omega)) ⟨x.val / 8, by omega⟩ ⟨x.val % 8, by omega⟩
  have h3 := gateOut_at V c ⟨x.val / 8, by omega⟩ ⟨x.val % 8, by omega⟩ s x (congrArg Fin.val hx).symm
  exact ((congrArg (fun z => out0_11 (blkIn0 V c t) (blkIn1 V c t) (blkIn2 V c t) (blkIn3 V c t) (blkIn4 V c t) (blkIn5 V c t) (blkIn6 V c t) (blkIn7 V c t) (ix2 z r)) hx.symm).trans h1).trans (h2.trans h3.symm)

/-- A point writes its columns of the queries. -/
theorem flushed0_8 (c : Dev nD) (t : Fin cfg0.N) (hf : (cfg0.win 8).flush t = true) :
    (dat0 V c).flushed 8 t = ((cfg0.win 8).blk t).view.read (Elt Ideal) (queryOut V c) := by
  have hN : t.val < 4 := Nat.lt_of_lt_of_eq t.isLt N_0
  show (cfg0.win 8).cut (grid0.coords t) ((dat0 V c).after 8 t) = _
  rw [after0_8]
  funext y
  have hx : (y 0 : Nat) < 1024 := (y 0).isLt
  have hr : (y 1 : Nat) < 512 := (y 1).isLt
  have hb := block0_8 V c t ⟨(y 0 : Nat), hx⟩ ⟨(y 1 : Nat), hr⟩ ⟨t.val * 512 + (y 1 : Nat), by omega⟩ rfl
  rw [show out0_8 (iblk0 V c 0 t) (iblk0 V c 1 t) (iblk0 V c 2 t) (iblk0 V c 3 t) (iblk0 V c 4 t) (iblk0 V c 5 t) (iblk0 V c 6 t) (iblk0 V c 7 t)
    = out0_8 (blkIn0 V c t) (blkIn1 V c t) (blkIn2 V c t) (blkIn3 V c t) (blkIn4 V c t) (blkIn5 V c t) (blkIn6 V c t) (blkIn7 V c t) from rfl]
  revert hb
  generalize queryOut V c = G
  generalize out0_8 (blkIn0 V c t) (blkIn1 V c t) (blkIn2 V c t) (blkIn3 V c t) (blkIn4 V c t) (blkIn5 V c t) (blkIn6 V c t) (blkIn7 V c t) = X
  intro hb
  rw [View.read_apply]
  refine (show _ = X (ix2 ⟨(y 0 : Nat), hx⟩ ⟨(y 1 : Nat), hr⟩) from ?_).trans (hb.trans ?_)
  · exact congrArg X (funext fun a => match a with | ⟨0, _⟩ => rfl | ⟨1, _⟩ => rfl)
  · refine congrArg G (funext fun a => Fin.ext ?_)
    match a with
    | ⟨0, _⟩ => show (y 0 : Nat) = win0_8.index t 0 * 1024 + 1 * (y 0 : Nat); rw [(index0_8 t).1]; omega
    | ⟨1, _⟩ => show t.val * 512 + (y 1 : Nat) = win0_8.index t 1 * 512 + 1 * (y 1 : Nat); rw [(index0_8 t).2]; omega

/-- The call's array of queries. -/
theorem arr0_8 (c : Dev nD) : (dat0 V c).arrAt 8 cfg0.N = queryOut V c :=
  (dat0 V c).arrAt_eq_of_cover 8 (queryOut V c) (flushed0_8 V c) fun i => by
    have h0 : (i 0 : Nat) < 1024 := (i 0).isLt
    have h1 : (i 1 : Nat) < 2048 := (i 1).isLt
    have hN : cfg0.N = 4 := N_0
    let t : Fin cfg0.N := ⟨(i 1 : Nat) / 512, by omega⟩
    have ht : t.val = (i 1 : Nat) / 512 := rfl
    refine ⟨t, flush0_8 t, ?_⟩
    show i ∈ ((View.whole main_v14_0).slice (win0_8.rect t)).set
    rw [View.set_slice_whole, Rect.mem_set_unit]
    intro a
    match a with
    | ⟨0, _⟩ =>
      show win0_8.index t 0 * 1024 ≤ (i 0 : Nat) ∧ (i 0 : Nat) < win0_8.index t 0 * 1024 + 1024
      rw [(index0_8 t).1]; omega
    | ⟨1, _⟩ =>
      show win0_8.index t 1 * 512 ≤ (i 1 : Nat) ∧ (i 1 : Nat) < win0_8.index t 1 * 512 + 512
      rw [(index0_8 t).2]; omega

/-- A point writes its columns of the keys. -/
theorem flushed0_9 (c : Dev nD) (t : Fin cfg0.N) (hf : (cfg0.win 9).flush t = true) :
    (dat0 V c).flushed 9 t = ((cfg0.win 9).blk t).view.read (Elt Ideal) (keyOut V c) := by
  have hN : t.val < 4 := Nat.lt_of_lt_of_eq t.isLt N_0
  show (cfg0.win 9).cut (grid0.coords t) ((dat0 V c).after 9 t) = _
  rw [after0_9]
  funext y
  have hx : (y 0 : Nat) < 1024 := (y 0).isLt
  have hr : (y 1 : Nat) < 512 := (y 1).isLt
  have hb := block0_9 V c t ⟨(y 0 : Nat), hx⟩ ⟨(y 1 : Nat), hr⟩ ⟨t.val * 512 + (y 1 : Nat), by omega⟩ rfl
  rw [show out0_9 (iblk0 V c 0 t) (iblk0 V c 1 t) (iblk0 V c 2 t) (iblk0 V c 3 t) (iblk0 V c 4 t) (iblk0 V c 5 t) (iblk0 V c 6 t) (iblk0 V c 7 t)
    = out0_9 (blkIn0 V c t) (blkIn1 V c t) (blkIn2 V c t) (blkIn3 V c t) (blkIn4 V c t) (blkIn5 V c t) (blkIn6 V c t) (blkIn7 V c t) from rfl]
  revert hb
  generalize keyOut V c = G
  generalize out0_9 (blkIn0 V c t) (blkIn1 V c t) (blkIn2 V c t) (blkIn3 V c t) (blkIn4 V c t) (blkIn5 V c t) (blkIn6 V c t) (blkIn7 V c t) = X
  intro hb
  rw [View.read_apply]
  refine (show _ = X (ix2 ⟨(y 0 : Nat), hx⟩ ⟨(y 1 : Nat), hr⟩) from ?_).trans (hb.trans ?_)
  · exact congrArg X (funext fun a => match a with | ⟨0, _⟩ => rfl | ⟨1, _⟩ => rfl)
  · refine congrArg G (funext fun a => Fin.ext ?_)
    match a with
    | ⟨0, _⟩ => show (y 0 : Nat) = win0_9.index t 0 * 1024 + 1 * (y 0 : Nat); rw [(index0_9 t).1]; omega
    | ⟨1, _⟩ => show t.val * 512 + (y 1 : Nat) = win0_9.index t 1 * 512 + 1 * (y 1 : Nat); rw [(index0_9 t).2]; omega

/-- The call's array of keys. -/
theorem arr0_9 (c : Dev nD) : (dat0 V c).arrAt 9 cfg0.N = keyOut V c :=
  (dat0 V c).arrAt_eq_of_cover 9 (keyOut V c) (flushed0_9 V c) fun i => by
    have h0 : (i 0 : Nat) < 1024 := (i 0).isLt
    have h1 : (i 1 : Nat) < 2048 := (i 1).isLt
    have hN : cfg0.N = 4 := N_0
    let t : Fin cfg0.N := ⟨(i 1 : Nat) / 512, by omega⟩
    have ht : t.val = (i 1 : Nat) / 512 := rfl
    refine ⟨t, flush0_9 t, ?_⟩
    show i ∈ ((View.whole main_v14_1).slice (win0_9.rect t)).set
    rw [View.set_slice_whole, Rect.mem_set_unit]
    intro a
    match a with
    | ⟨0, _⟩ =>
      show win0_9.index t 0 * 1024 ≤ (i 0 : Nat) ∧ (i 0 : Nat) < win0_9.index t 0 * 1024 + 1024
      rw [(index0_9 t).1]; omega
    | ⟨1, _⟩ =>
      show win0_9.index t 1 * 512 ≤ (i 1 : Nat) ∧ (i 1 : Nat) < win0_9.index t 1 * 512 + 512
      rw [(index0_9 t).2]; omega

/-- A point writes its columns of the values. -/
theorem flushed0_10 (c : Dev nD) (t : Fin cfg0.N) (hf : (cfg0.win 10).flush t = true) :
    (dat0 V c).flushed 10 t = ((cfg0.win 10).blk t).view.read (Elt Ideal) (valueOut V c) := by
  have hN : t.val < 4 := Nat.lt_of_lt_of_eq t.isLt N_0
  show (cfg0.win 10).cut (grid0.coords t) ((dat0 V c).after 10 t) = _
  rw [after0_10]
  funext y
  have hx : (y 0 : Nat) < 1024 := (y 0).isLt
  have hr : (y 1 : Nat) < 512 := (y 1).isLt
  have hb := block0_10 V c t ⟨(y 0 : Nat), hx⟩ ⟨(y 1 : Nat), hr⟩ ⟨t.val * 512 + (y 1 : Nat), by omega⟩ rfl
  rw [show out0_10 (iblk0 V c 0 t) (iblk0 V c 1 t) (iblk0 V c 2 t) (iblk0 V c 3 t) (iblk0 V c 4 t) (iblk0 V c 5 t) (iblk0 V c 6 t) (iblk0 V c 7 t)
    = out0_10 (blkIn0 V c t) (blkIn1 V c t) (blkIn2 V c t) (blkIn3 V c t) (blkIn4 V c t) (blkIn5 V c t) (blkIn6 V c t) (blkIn7 V c t) from rfl]
  revert hb
  generalize valueOut V c = G
  generalize out0_10 (blkIn0 V c t) (blkIn1 V c t) (blkIn2 V c t) (blkIn3 V c t) (blkIn4 V c t) (blkIn5 V c t) (blkIn6 V c t) (blkIn7 V c t) = X
  intro hb
  rw [View.read_apply]
  refine (show _ = X (ix2 ⟨(y 0 : Nat), hx⟩ ⟨(y 1 : Nat), hr⟩) from ?_).trans (hb.trans ?_)
  · exact congrArg X (funext fun a => match a with | ⟨0, _⟩ => rfl | ⟨1, _⟩ => rfl)
  · refine congrArg G (funext fun a => Fin.ext ?_)
    match a with
    | ⟨0, _⟩ => show (y 0 : Nat) = win0_10.index t 0 * 1024 + 1 * (y 0 : Nat); rw [(index0_10 t).1]; omega
    | ⟨1, _⟩ => show t.val * 512 + (y 1 : Nat) = win0_10.index t 1 * 512 + 1 * (y 1 : Nat); rw [(index0_10 t).2]; omega

/-- The call's array of values. -/
theorem arr0_10 (c : Dev nD) : (dat0 V c).arrAt 10 cfg0.N = valueOut V c :=
  (dat0 V c).arrAt_eq_of_cover 10 (valueOut V c) (flushed0_10 V c) fun i => by
    have h0 : (i 0 : Nat) < 1024 := (i 0).isLt
    have h1 : (i 1 : Nat) < 2048 := (i 1).isLt
    have hN : cfg0.N = 4 := N_0
    let t : Fin cfg0.N := ⟨(i 1 : Nat) / 512, by omega⟩
    have ht : t.val = (i 1 : Nat) / 512 := rfl
    refine ⟨t, flush0_10 t, ?_⟩
    show i ∈ ((View.whole main_v14_2).slice (win0_10.rect t)).set
    rw [View.set_slice_whole, Rect.mem_set_unit]
    intro a
    match a with
    | ⟨0, _⟩ =>
      show win0_10.index t 0 * 1024 ≤ (i 0 : Nat) ∧ (i 0 : Nat) < win0_10.index t 0 * 1024 + 1024
      rw [(index0_10 t).1]; omega
    | ⟨1, _⟩ =>
      show win0_10.index t 1 * 512 ≤ (i 1 : Nat) ∧ (i 1 : Nat) < win0_10.index t 1 * 512 + 512
      rw [(index0_10 t).2]; omega

/-- A point writes its columns of the gates. -/
theorem flushed0_11 (c : Dev nD) (t : Fin cfg0.N) (hf : (cfg0.win 11).flush t = true) :
    (dat0 V c).flushed 11 t = ((cfg0.win 11).blk t).view.read (Elt Ideal) (gateOut V c) := by
  have hN : t.val < 4 := Nat.lt_of_lt_of_eq t.isLt N_0
  show (cfg0.win 11).cut (grid0.coords t) ((dat0 V c).after 11 t) = _
  rw [after0_11]
  funext y
  have hx : (y 0 : Nat) < 128 := (y 0).isLt
  have hr : (y 1 : Nat) < 512 := (y 1).isLt
  have hb := block0_11 V c t ⟨(y 0 : Nat), hx⟩ ⟨(y 1 : Nat), hr⟩ ⟨t.val * 512 + (y 1 : Nat), by omega⟩ rfl
  rw [show out0_11 (iblk0 V c 0 t) (iblk0 V c 1 t) (iblk0 V c 2 t) (iblk0 V c 3 t) (iblk0 V c 4 t) (iblk0 V c 5 t) (iblk0 V c 6 t) (iblk0 V c 7 t)
    = out0_11 (blkIn0 V c t) (blkIn1 V c t) (blkIn2 V c t) (blkIn3 V c t) (blkIn4 V c t) (blkIn5 V c t) (blkIn6 V c t) (blkIn7 V c t) from rfl]
  revert hb
  generalize gateOut V c = G
  generalize out0_11 (blkIn0 V c t) (blkIn1 V c t) (blkIn2 V c t) (blkIn3 V c t) (blkIn4 V c t) (blkIn5 V c t) (blkIn6 V c t) (blkIn7 V c t) = X
  intro hb
  rw [View.read_apply]
  refine (show _ = X (ix2 ⟨(y 0 : Nat), hx⟩ ⟨(y 1 : Nat), hr⟩) from ?_).trans (hb.trans ?_)
  · exact congrArg X (funext fun a => match a with | ⟨0, _⟩ => rfl | ⟨1, _⟩ => rfl)
  · refine congrArg G (funext fun a => Fin.ext ?_)
    match a with
    | ⟨0, _⟩ => show (y 0 : Nat) = win0_11.index t 0 * 128 + 1 * (y 0 : Nat); rw [(index0_11 t).1]; omega
    | ⟨1, _⟩ => show t.val * 512 + (y 1 : Nat) = win0_11.index t 1 * 512 + 1 * (y 1 : Nat); rw [(index0_11 t).2]; omega

/-- The call's array of gates. -/
theorem arr0_11 (c : Dev nD) : (dat0 V c).arrAt 11 cfg0.N = gateOut V c :=
  (dat0 V c).arrAt_eq_of_cover 11 (gateOut V c) (flushed0_11 V c) fun i => by
    have h0 : (i 0 : Nat) < 128 := (i 0).isLt
    have h1 : (i 1 : Nat) < 2048 := (i 1).isLt
    have hN : cfg0.N = 4 := N_0
    let t : Fin cfg0.N := ⟨(i 1 : Nat) / 512, by omega⟩
    have ht : t.val = (i 1 : Nat) / 512 := rfl
    refine ⟨t, flush0_11 t, ?_⟩
    show i ∈ ((View.whole main_v14_3).slice (win0_11.rect t)).set
    rw [View.set_slice_whole, Rect.mem_set_unit]
    intro a
    match a with
    | ⟨0, _⟩ =>
      show win0_11.index t 0 * 128 ≤ (i 0 : Nat) ∧ (i 0 : Nat) < win0_11.index t 0 * 128 + 128
      rw [(index0_11 t).1]; omega
    | ⟨1, _⟩ =>
      show win0_11.index t 1 * 512 ≤ (i 1 : Nat) ∧ (i 1 : Nat) < win0_11.index t 1 * 512 + 512
      rw [(index0_11 t).2]; omega

end Cert.KernelIdeal.Att

end
-- ==== Proof.KernelIdeal.Host.lean ====
/- The arrays that the host operations prepare for the two calls, at an index, and the final reshape. -/
module

public import proofs.«01_k».proof.Proof.KernelIdeal.Run
public import Idealize.ShloMosaic.Lib.StableHlo.Run
public import Idealize.ShloMosaic.Lib.Pointwise

@[expose] public section

noncomputable section

namespace Cert.KernelIdeal.Att

open Cert.KernelIdeal Cert.KernelIdeal.Gen
open Idealize.ShloMosaic Idealize.ShloMosaic.TcCoe Idealize.ShloMosaic.Pointwise

variable (m : (ℓ : Loc nD τ sig) → Buf (Elt Ideal) ℓ) (ρ : Dev nD → PrngReg) (c : Dev nD)

/-- The query source. -/
def arg0 : Vec Ideal S1x2048x1024 .f32 := m ((c : Thread nD τ).loc main_arg0)
/-- The key source. -/
def arg1 : Vec Ideal S1x2048x1024 .f32 := m ((c : Thread nD τ).loc main_arg1)
/-- The value source. -/
def arg2 : Vec Ideal S1x2048x1024 .f32 := m ((c : Thread nD τ).loc main_arg2)
/-- The query weights. -/
def arg3 : Vec Ideal S1024x1024 .f32 := m ((c : Thread nD τ).loc main_arg3)
/-- The key weights. -/
def arg4 : Vec Ideal S1024x1024 .f32 := m ((c : Thread nD τ).loc main_arg4)
/-- The value experts. -/
def arg5 : Vec Ideal S128x1024x64 .f32 := m ((c : Thread nD τ).loc main_arg5)
/-- The output experts. -/
def arg6 : Vec Ideal S128x64x1024 .f32 := m ((c : Thread nD τ).loc main_arg6)
/-- The value selection. -/
def arg7 : Vec Ideal S128x1024 .f32 := m ((c : Thread nD τ).loc main_arg7)
/-- The output selection. -/
def arg8 : Vec Ideal S128x1024 .f32 := m ((c : Thread nD τ).loc main_arg8)

/-- The flattened query source. -/
theorem host_v0 : (W1 m ρ c (Proc.devRef .tc main_v0) : Vec Ideal S2048x1024 .f32)
    = shapeCast S2048x1024 (arg0 m c) shapeCasts_S1x2048x1024_S2048x1024 := by
  unfold W1
  after_results
  rfl

/-- The flattened key source. -/
theorem host_v1 : (W1 m ρ c (Proc.devRef .tc main_v1) : Vec Ideal S2048x1024 .f32)
    = shapeCast S2048x1024 (arg1 m c) shapeCasts_S1x2048x1024_S2048x1024 := by
  unfold W1
  after_results
  rfl

/-- The flattened value source. -/
theorem host_v2 : (W1 m ρ c (Proc.devRef .tc main_v2) : Vec Ideal S2048x1024 .f32)
    = shapeCast S2048x1024 (arg2 m c) shapeCasts_S1x2048x1024_S2048x1024 := by
  unfold W1
  after_results
  rfl

/-- The scaled query weights. -/
theorem host_v5 : (W1 m ρ c (Proc.devRef .tc main_v5) : Vec Ideal S1024x1024 .bf16)
    = truncf .bf16 (mulf (arg3 m c) (broadcastInDim S1024x1024 ![] bcast_S_S1024x1024 (constant (F := Ideal) S_ .f32 0x3EB504F3#32))) bitsLt_bf16_f32 := by
  unfold W1
  after_results
  rfl

/-- The scaled key weights. -/
theorem host_v8 : (W1 m ρ c (Proc.devRef .tc main_v8) : Vec Ideal S1024x1024 .bf16)
    = truncf .bf16 (mulf (arg4 m c) (broadcastInDim S1024x1024 ![] bcast_S_S1024x1024 (constant (F := Ideal) S_ .f32 0x3EB504F3#32))) bitsLt_bf16_f32 := by
  unfold W1
  after_results
  rfl

/-- The value experts side by side. -/
theorem host_v11 : (W1 m ρ c (Proc.devRef .tc main_v11) : Vec Ideal S1024x8192 .bf16)
    = shapeCast S1024x8192 (truncf (F := Ideal) .bf16 (transpose S1024x128x64 [1, 0, 2] (arg5 m c) transposes_S128x1024x64_S1024x128x64_1_0_2) bitsLt_bf16_f32)
        shapeCasts_S1024x128x64_S1024x8192 := by
  unfold W1
  after_results
  rfl

/-- The output experts, one under the other. -/
theorem host_v13 : (W1 m ρ c (Proc.devRef .tc main_v13) : Vec Ideal S8192x1024 .bf16)
    = shapeCast S8192x1024 (truncf (F := Ideal) .bf16 (arg6 m c) bitsLt_bf16_f32) shapeCasts_S128x64x1024_S8192x1024 := by
  unfold W1
  after_results
  rfl

/-- The result, from the attention call's output. -/
theorem host_v16 : (W4 m ρ c (Proc.devRef .tc main_v16) : Vec Ideal S1x2048x1024 .f32)
    = shapeCast S1x2048x1024 (W3 m ρ c (Proc.devRef .tc main_v15) : Vec Ideal S2048x1024 .f32) shapeCasts_S2048x1024_S1x2048x1024 := by
  unfold W4
  after_results
  rfl

/-- The flattened query source at an index. -/
theorem v0_at (s : Fin 2048) (d : Fin 1024) : (W1 m ρ c (Proc.devRef .tc main_v0) : Vec Ideal S2048x1024 .f32) (ix2 s d) = arg0 m c (ix3 0 s d) := by
  rw [host_v0]
  generalize arg0 m c = x
  pointwise []

/-- The flattened key source at an index. -/
theorem v1_at (s : Fin 2048) (d : Fin 1024) : (W1 m ρ c (Proc.devRef .tc main_v1) : Vec Ideal S2048x1024 .f32) (ix2 s d) = arg1 m c (ix3 0 s d) := by
  rw [host_v1]
  generalize arg1 m c = x
  pointwise []

/-- The flattened value source at an index. -/
theorem v2_at (s : Fin 2048) (d : Fin 1024) : (W1 m ρ c (Proc.devRef .tc main_v2) : Vec Ideal S2048x1024 .f32) (ix2 s d) = arg2 m c (ix3 0 s d) := by
  rw [host_v2]
  generalize arg2 m c = x
  pointwise []

/-- The scaled query weights at an index. -/
theorem v5_at (n d : Fin 1024) : (W1 m ρ c (Proc.devRef .tc main_v5) : Vec Ideal S1024x1024 .bf16) (ix2 n d)
    = arg3 m c (ix2 n d) * Ideal.ofBits .f32 0x3EB504F3#32 := by
  rw [host_v5]
  generalize arg3 m c = x
  pointwise []

/-- The scaled key weights at an index. -/
theorem v8_at (n d : Fin 1024) : (W1 m ρ c (Proc.devRef .tc main_v8) : Vec Ideal S1024x1024 .bf16) (ix2 n d)
    = arg4 m c (ix2 n d) * Ideal.ofBits .f32 0x3EB504F3#32 := by
  rw [host_v8]
  generalize arg4 m c = x
  pointwise []

/-- The value experts side by side at an index. -/
theorem v11_at (d : Fin 1024) (n : Fin 128) (f : Fin 64) : (W1 m ρ c (Proc.devRef .tc main_v11) : Vec Ideal S1024x8192 .bf16)
    (ix2 d ⟨n.val * 64 + f.val, by omega⟩) = arg5 m c (ix3 n d f) := by
  rw [host_v11]
  generalize arg5 m c = x
  pointwise []

/-- The output experts one under the other at an index. -/
theorem v13_at (n : Fin 128) (f : Fin 64) (k : Fin 1024) : (W1 m ρ c (Proc.devRef .tc main_v13) : Vec Ideal S8192x1024 .bf16)
    (ix2 ⟨n.val * 64 + f.val, by omega⟩ k) = arg6 m c (ix3 n f k) := by
  rw [host_v13]
  generalize arg6 m c = x
  pointwise []

/-- The result at an index. -/
theorem v16_at (s : Fin 2048) (k : Fin 1024) : (W4 m ρ c (Proc.devRef .tc main_v16) : Vec Ideal S1x2048x1024 .f32) (ix3 0 s k)
    = (W3 m ρ c (Proc.devRef .tc main_v15) : Vec Ideal S2048x1024 .f32) (ix2 s k) := by
  rw [host_v16]
  generalize (W3 m ρ c (Proc.devRef .tc main_v15) : Vec Ideal S2048x1024 .f32) = x
  pointwise []

end Cert.KernelIdeal.Att

end
-- ==== Proof.KernelIdeal.Result.lean ====
/- The kernel's projections, gates and attention agree with the reference's arrays. -/
module

public import proofs.«01_k».proof.Proof.Equation
public import proofs.«01_k».proof.Proof.ReferenceIdeal.Conditions
public import proofs.«01_k».proof.Proof.KernelIdeal.AttentionValue
public import proofs.«01_k».proof.Proof.KernelIdeal.ProjectionValue
public import proofs.«01_k».proof.Proof.KernelIdeal.Host

@[expose] public section

noncomputable section

namespace Cert.KernelIdeal.Att

open Cert.KernelIdeal Cert.KernelIdeal.Gen
open Idealize.ShloMosaic Idealize.ShloMosaic.TcCoe Idealize.ShloMosaic.Pointwise
open Cert.ReferenceIdeal.Read (val_main_v3 val_main_v7 val_main_v15 val_main_v20 val_main_v28 val_main_v33 val_main_v36 val_main_v42 val_main_v43
  val_main_v49 val_main_v54 val_main_v62)

section Arrays

variable {x0 x1 x2 : Vec Ideal Cert.ReferenceIdeal.S1x2048x1024 .f32} {x3 x4 : Vec Ideal Cert.ReferenceIdeal.S1024x1024 .f32}
  {x5 : Vec Ideal Cert.ReferenceIdeal.S128x1024x64 .f32} {x6 : Vec Ideal Cert.ReferenceIdeal.S128x64x1024 .f32}
  {x7 x8 : Vec Ideal Cert.ReferenceIdeal.S128x1024 .f32}
  {q k v : Vec Ideal S1024x2048 .bf16} {g : Vec Ideal S128x2048 .f32} {w : Vec Ideal S8192x1024 .bf16}

/-- The scores agree when the queries and keys do. -/
theorem score_eq (hq : ∀ n s, q (ix2 n s) = val_main_v3 (F := Ideal) x0 x3 (ix3 0 s n))
    (hk : ∀ n s, k (ix2 n s) = val_main_v7 (F := Ideal) x1 x4 (ix3 0 s n)) (h : Fin 16) (s t : Fin 2048) :
    scoreA q k h s t = val_main_v42 (F := Ideal) x0 x1 x3 x4 (ix4 0 h s t) := by
  rw [Cert.ReferenceIdeal.Read.score_at]
  unfold scoreA
  exact Finset.sum_congr rfl fun f _ => congrArg₂ _ (hq _ _) (hk _ _)

/-- The softmax weights agree when the queries and keys do. -/
theorem weight_eq (hq : ∀ n s, q (ix2 n s) = val_main_v3 (F := Ideal) x0 x3 (ix3 0 s n))
    (hk : ∀ n s, k (ix2 n s) = val_main_v7 (F := Ideal) x1 x4 (ix3 0 s n)) (h : Fin 16) (s t : Fin 2048) :
    weightA q k h s t = val_main_v49 (F := Ideal) x0 x1 x3 x4 (ix4 0 h s t) := by
  rw [Cert.ReferenceIdeal.Read.weight_at, Cert.ReferenceIdeal.Read.top_at]
  unfold weightA
  rw [score_eq hq hk, funext fun u => score_eq hq hk h s u]

/-- The sum of the softmax weights is above zero where the greatest score is finite. -/
theorem weights_pos (h : Fin 16) (s : Fin 2048)
    (htop : ⊥ < val_main_v43 (F := Ideal) x0 x1 x3 x4 (ix3 0 h s) ∧ val_main_v43 (F := Ideal) x0 x1 x3 x4 (ix3 0 h s) < ⊤) :
    0 < ∑ t, val_main_v49 (F := Ideal) x0 x1 x3 x4 (ix4 0 h s t) := by
  rw [Cert.ReferenceIdeal.Read.top_at] at htop
  have := Equation.weights_pos (fun t => val_main_v42 (F := Ideal) x0 x1 x3 x4 (ix4 0 h s t)) htop
  rwa [← Cert.ReferenceIdeal.Read.top_at, ← funext fun t => Cert.ReferenceIdeal.Read.weight_at x0 x1 x3 x4 s h t] at this

/-- One gated head agrees with the reference's. -/
theorem head_eq (hq : ∀ n s, q (ix2 n s) = val_main_v3 (F := Ideal) x0 x3 (ix3 0 s n))
    (hk : ∀ n s, k (ix2 n s) = val_main_v7 (F := Ideal) x1 x4 (ix3 0 s n))
    (hv : ∀ (h : Fin 16) (f : Fin 64) s X, X.val = h.val * 64 + f.val → v (ix2 X s) = val_main_v36 (F := Ideal) x1 x2 x5 x7 (ix4 0 s h f))
    (hg : ∀ (h : Fin 16) (e : Fin 8) s X, X.val = h.val * 8 + e.val → g (ix2 X s) = val_main_v33 (F := Ideal) x0 x8 (ix4 0 s h e))
    (h : Fin 16) (e : Fin 8) (f : Fin 64) (s : Fin 2048)
    (htop : ⊥ < val_main_v43 (F := Ideal) x0 x1 x3 x4 (ix3 0 h s) ∧ val_main_v43 (F := Ideal) x0 x1 x3 x4 (ix3 0 h s) < ⊤) :
    headA q k v g h e f s
      = val_main_v33 (F := Ideal) x0 x8 (ix4 0 s h e) * val_main_v54 (F := Ideal) x0 x1 x2 x3 x4 x5 x7 (ix4 0 h s f) := by
  rw [Cert.ReferenceIdeal.Read.attn_at]
  unfold headA
  exact Equation.softmax_congr (fun t => weightA q k h s t) (fun t => val_main_v49 (F := Ideal) x0 x1 x3 x4 (ix4 0 h s t))
    (fun t => v (ix2 ⟨h.val * 64 + f.val, by omega⟩ t)) (fun t => val_main_v36 (F := Ideal) x1 x2 x5 x7 (ix4 0 t h f)) _ _
    (fun t => weight_eq hq hk h s t) (fun t => hv h f t _ rfl) (hg h e s _ rfl) (weights_pos h s htop)

/-- The attention and output of the second call agree with the reference's result. -/
theorem attn_eq (hq : ∀ n s, q (ix2 n s) = val_main_v3 (F := Ideal) x0 x3 (ix3 0 s n))
    (hk : ∀ n s, k (ix2 n s) = val_main_v7 (F := Ideal) x1 x4 (ix3 0 s n))
    (hv : ∀ (h : Fin 16) (f : Fin 64) s X, X.val = h.val * 64 + f.val → v (ix2 X s) = val_main_v36 (F := Ideal) x1 x2 x5 x7 (ix4 0 s h f))
    (hg : ∀ (h : Fin 16) (e : Fin 8) s X, X.val = h.val * 8 + e.val → g (ix2 X s) = val_main_v33 (F := Ideal) x0 x8 (ix4 0 s h e))
    (hw : ∀ (n : Fin 128) (f : Fin 64) m X, X.val = n.val * 64 + f.val → w (ix2 X m) = x6 (ix3 n f m))
    (s : Fin 2048) (m : Fin 1024)
    (htop : ∀ h, ⊥ < val_main_v43 (F := Ideal) x0 x1 x3 x4 (ix3 0 h s) ∧ val_main_v43 (F := Ideal) x0 x1 x3 x4 (ix3 0 h s) < ⊤) :
    attnA q k v g w s m = val_main_v62 (F := Ideal) x0 x1 x2 x3 x4 x5 x6 x7 x8 (ix3 0 s m) := by
  rw [Cert.ReferenceIdeal.Read.out_at]
  unfold attnA
  refine Finset.sum_congr rfl fun h _ => Finset.sum_congr rfl fun e _ => Finset.sum_congr rfl fun f _ => ?_
  refine congrArg₂ _ (head_eq hq hk hv hg h e f s (htop h)) (hw _ f m _ ?_)
  change h.val * 512 + e.val * 64 + f.val = (h.val * 8 + e.val) * 64 + f.val
  omega

/-- The queries agree: the scale is on the weights or on the projection. -/
theorem query_eq {x : Vec Ideal S2048x1024 .f32} {u : Vec Ideal S1024x1024 .bf16} (hx : ∀ s d, x (ix2 s d) = x0 (ix3 0 s d))
    (hu : ∀ n d, u (ix2 n d) = x3 (ix2 n d) * Ideal.ofBits .f32 0x3EB504F3#32) (n : Fin 1024) (s : Fin 2048) :
    projA x u n s = val_main_v3 (F := Ideal) x0 x3 (ix3 0 s n) := by
  rw [Cert.ReferenceIdeal.Read.query_at]
  unfold projA
  exact (Finset.sum_congr rfl fun d _ => congrArg₂ _ (hu n d) (hx s d)).trans
    (Equation.scaled_sum (fun d => x0 (ix3 0 s d)) (fun d => x3 (ix2 n d)))

/-- The keys agree: the scale is on the weights or on the projection. -/
theorem key_eq {x : Vec Ideal S2048x1024 .f32} {u : Vec Ideal S1024x1024 .bf16} (hx : ∀ s d, x (ix2 s d) = x1 (ix3 0 s d))
    (hu : ∀ n d, u (ix2 n d) = x4 (ix2 n d) * Ideal.ofBits .f32 0x3EB504F3#32) (n : Fin 1024) (s : Fin 2048) :
    projA x u n s = val_main_v7 (F := Ideal) x1 x4 (ix3 0 s n) := by
  rw [Cert.ReferenceIdeal.Read.key_at]
  unfold projA
  exact (Finset.sum_congr rfl fun d _ => congrArg₂ _ (hu n d) (hx s d)).trans
    (Equation.scaled_sum (fun d => x1 (ix3 0 s d)) (fun d => x4 (ix2 n d)))

/-- The value gates agree where the second of a group is above the third. -/
theorem gateV_eq {x : Vec Ideal S2048x1024 .f32} {u : Vec Ideal S128x1024 .f32} (hx : ∀ s d, x (ix2 s d) = x1 (ix3 0 s d))
    (hu : ∀ n d, u (ix2 n d) = x7 (ix2 n d)) (h : Fin 16) (e : Fin 8) (s : Fin 2048)
    (hgap : val_main_v15 (F := Ideal) x1 x7 (ix4 0 s h (Gate.rank (fun e => val_main_v15 (F := Ideal) x1 x7 (ix4 0 s h e)) 2))
      < val_main_v15 (F := Ideal) x1 x7 (ix4 0 s h (Gate.rank (fun e => val_main_v15 (F := Ideal) x1 x7 (ix4 0 s h e)) 1))) :
    gateA x u h e s = val_main_v20 (F := Ideal) x1 x7 (ix4 0 s h e) := by
  rw [Cert.ReferenceIdeal.Read.gateV_at]
  have hrow : (fun e : Fin 8 => Ideal.logistic (∑ d, u (ix2 ⟨h.val * 8 + e.val, by omega⟩ d) * x (ix2 s d)))
      = fun e => val_main_v15 (F := Ideal) x1 x7 (ix4 0 s h e) := funext fun e => by
    rw [Cert.ReferenceIdeal.Read.sigV_at]
    exact congrArg _ (Finset.sum_congr rfl fun d _ => (congrArg₂ _ (hu _ d) (hx s d)).trans (mul_comm _ _))
  unfold gateA
  rw [hrow]
  refine Gate.maskedGate_eq_rank (fun e => val_main_v15 (F := Ideal) x1 x7 (ix4 0 s h e)) (fun e => ?_) hgap e
  change 0 ≤ val_main_v15 (F := Ideal) x1 x7 (ix4 0 s h e)
  rw [Cert.ReferenceIdeal.Read.sigV_at]
  exact Equation.logistic_nonneg _

/-- The output gates agree where the second of a group is above the third. -/
theorem gateO_eq {x : Vec Ideal S2048x1024 .f32} {u : Vec Ideal S128x1024 .f32} (hx : ∀ s d, x (ix2 s d) = x0 (ix3 0 s d))
    (hu : ∀ n d, u (ix2 n d) = x8 (ix2 n d)) (h : Fin 16) (e : Fin 8) (s : Fin 2048)
    (hgap : val_main_v28 (F := Ideal) x0 x8 (ix4 0 s h (Gate.rank (fun e => val_main_v28 (F := Ideal) x0 x8 (ix4 0 s h e)) 2))
      < val_main_v28 (F := Ideal) x0 x8 (ix4 0 s h (Gate.rank (fun e => val_main_v28 (F := Ideal) x0 x8 (ix4 0 s h e)) 1))) :
    gateA x u h e s = val_main_v33 (F := Ideal) x0 x8 (ix4 0 s h e) := by
  rw [Cert.ReferenceIdeal.Read.gateO_at]
  have hrow : (fun e : Fin 8 => Ideal.logistic (∑ d, u (ix2 ⟨h.val * 8 + e.val, by omega⟩ d) * x (ix2 s d)))
      = fun e => val_main_v28 (F := Ideal) x0 x8 (ix4 0 s h e) := funext fun e => by
    rw [Cert.ReferenceIdeal.Read.sigO_at]
    exact congrArg _ (Finset.sum_congr rfl fun d _ => (congrArg₂ _ (hu _ d) (hx s d)).trans (mul_comm _ _))
  unfold gateA
  rw [hrow]
  refine Gate.maskedGate_eq_rank (fun e => val_main_v28 (F := Ideal) x0 x8 (ix4 0 s h e)) (fun e => ?_) hgap e
  change 0 ≤ val_main_v28 (F := Ideal) x0 x8 (ix4 0 s h e)
  rw [Cert.ReferenceIdeal.Read.sigO_at]
  exact Equation.logistic_nonneg _

/-- The values agree when the value gates do. -/
theorem value_eq {x y : Vec Ideal S2048x1024 .f32} {u : Vec Ideal S128x1024 .f32} {wv : Vec Ideal S1024x8192 .bf16}
    (hy : ∀ s d, y (ix2 s d) = x2 (ix3 0 s d))
    (hg : ∀ h e s, gateA x u h e s = val_main_v20 (F := Ideal) x1 x7 (ix4 0 s h e))
    (hwv : ∀ (n : Fin 128) (f : Fin 64) d X, X.val = n.val * 64 + f.val → wv (ix2 d X) = x5 (ix3 n d f))
    (h : Fin 16) (f : Fin 64) (s : Fin 2048) :
    valueA x y u wv h f s = val_main_v36 (F := Ideal) x1 x2 x5 x7 (ix4 0 s h f) := by
  rw [Cert.ReferenceIdeal.Read.value_at]
  unfold valueA
  refine Finset.sum_congr rfl fun e _ => (mul_comm _ _).trans (congrArg₂ _ (hg h e s) ?_)
  refine Finset.sum_congr rfl fun d _ => congrArg₂ _ (hwv _ f d _ ?_) (hy s d)
  change h.val * 512 + e.val * 64 + f.val = (h.val * 8 + e.val) * 64 + f.val
  omega

end Arrays

end Cert.KernelIdeal.Att

end
-- ==== Proof.KernelIdeal.Value.lean ====
/- What the kernel leaves in its result: the reference's result of the same arguments. -/
module

public import proofs.«01_k».proof.Proof.KernelIdeal.Result

@[expose] public section

noncomputable section

namespace Cert.KernelIdeal.Att

open Cert.KernelIdeal Cert.KernelIdeal.Gen
open Idealize.ShloMosaic Idealize.ShloMosaic.TcCoe Idealize.ShloMosaic.Pointwise
open Cert.ReferenceIdeal.Read (val_main_v3 val_main_v7 val_main_v15 val_main_v20 val_main_v28 val_main_v33 val_main_v36 val_main_v43 val_main_v62)

variable (m : (ℓ : Loc nD τ sig) → Buf (Elt Ideal) ℓ) (ρ : Dev nD → PrngReg) (c : Dev nD)

/-- The first call reads the query source. -/
theorem in0_at (s : Fin 2048) (d : Fin 1024) : arrIn0 (V1 m ρ) c (ix2 s d) = arg0 m c (ix3 0 s d) := v0_at m ρ c s d
/-- The first call reads the key source. -/
theorem in1_at (s : Fin 2048) (d : Fin 1024) : arrIn1 (V1 m ρ) c (ix2 s d) = arg1 m c (ix3 0 s d) := v1_at m ρ c s d
/-- The first call reads the value source. -/
theorem in2_at (s : Fin 2048) (d : Fin 1024) : arrIn2 (V1 m ρ) c (ix2 s d) = arg2 m c (ix3 0 s d) := v2_at m ρ c s d
/-- The first call reads the scaled query weights. -/
theorem in3_at (n d : Fin 1024) : arrIn3 (V1 m ρ) c (ix2 n d) = arg3 m c (ix2 n d) * Ideal.ofBits .f32 0x3EB504F3#32 := v5_at m ρ c n d
/-- The first call reads the scaled key weights. -/
theorem in4_at (n d : Fin 1024) : arrIn4 (V1 m ρ) c (ix2 n d) = arg4 m c (ix2 n d) * Ideal.ofBits .f32 0x3EB504F3#32 := v8_at m ρ c n d
/-- The first call reads the value selection. -/
theorem in5_at (n : Fin 128) (d : Fin 1024) : arrIn5 (V1 m ρ) c (ix2 n d) = arg7 m c (ix2 n d) :=
  congrFun (W1_args m ρ c main_arg7 (by decide)) (ix2 n d)
/-- The first call reads the output selection. -/
theorem in6_at (n : Fin 128) (d : Fin 1024) : arrIn6 (V1 m ρ) c (ix2 n d) = arg8 m c (ix2 n d) :=
  congrFun (W1_args m ρ c main_arg8 (by decide)) (ix2 n d)
/-- The first call reads the value experts side by side. -/
theorem in7_at (n : Fin 128) (f : Fin 64) (d : Fin 1024) (X : Fin 8192) (hX : X.val = n.val * 64 + f.val) :
    arrIn7 (V1 m ρ) c (ix2 d X) = arg5 m c (ix3 n d f) := by
  obtain ⟨X, hx⟩ := X
  obtain rfl : X = n.val * 64 + f.val := hX
  exact v11_at m ρ c d n f

/-- The arrays that the second call reads. -/
def midQ : Vec Ideal S1024x2048 .bf16 := V2 m ρ c (Pipeline.arrRef spec1 0)
/-- The keys that the second call reads. -/
def midK : Vec Ideal S1024x2048 .bf16 := V2 m ρ c (Pipeline.arrRef spec1 1)
/-- The values that the second call reads. -/
def midV : Vec Ideal S1024x2048 .bf16 := V2 m ρ c (Pipeline.arrRef spec1 2)
/-- The gates that the second call reads. -/
def midG : Vec Ideal S128x2048 .f32 := V2 m ρ c (Pipeline.arrRef spec1 3)
/-- The output experts that the second call reads. -/
def midW : Vec Ideal S8192x1024 .bf16 := V2 m ρ c (Pipeline.arrRef spec1 4)

/-- The second call reads the queries of the first. -/
theorem midQ_eq : midQ m ρ c = queryOut (V1 m ρ) c := (W2_arr m ρ c 8).trans (arr0_8 (V1 m ρ) c)
/-- The second call reads the keys of the first. -/
theorem midK_eq : midK m ρ c = keyOut (V1 m ρ) c := (W2_arr m ρ c 9).trans (arr0_9 (V1 m ρ) c)
/-- The second call reads the values of the first. -/
theorem midV_eq : midV m ρ c = valueOut (V1 m ρ) c := (W2_arr m ρ c 10).trans (arr0_10 (V1 m ρ) c)
/-- The second call reads the gates of the first. -/
theorem midG_eq : midG m ρ c = gateOut (V1 m ρ) c := (W2_arr m ρ c 11).trans (arr0_11 (V1 m ρ) c)

/-- The second call reads the output experts one under the other. -/
theorem midW_at (n : Fin 128) (f : Fin 64) (k : Fin 1024) (X : Fin 8192) (hX : X.val = n.val * 64 + f.val) :
    midW m ρ c (ix2 X k) = arg6 m c (ix3 n f k) := by
  obtain ⟨X, hx⟩ := X
  obtain rfl : X = n.val * 64 + f.val := hX
  exact (congrFun (W2_of m ρ c main_v13 (by decide)) _).trans (v13_at m ρ c n f k)

/-- The array of the second call's result. -/
theorem out_eq : (W3 m ρ c (Proc.devRef .tc main_v15) : Vec Ideal S2048x1024 .f32)
    = fun i => attnA (midQ m ρ c) (midK m ρ c) (midV m ρ c) (midG m ρ c) (midW m ρ c) (i 0) (i 1) :=
  (W3_arr m ρ c 5).trans (arr1 (V2 m ρ) c)

/-- The kernel's result is the reference's result of the same arguments, under the precondition. -/
theorem result_eq (h : Cert.Pre_clear_top.fn (F := Ideal) (arg0 m c) (arg1 m c) (arg2 m c) (arg3 m c) (arg4 m c) (arg5 m c) (arg6 m c)
      (arg7 m c) (arg8 m c) = fun _ => 1#1) :
    (W4 m ρ c (Proc.devRef .tc main_v16) : Vec Ideal S1x2048x1024 .f32)
      = val_main_v62 (F := Ideal) (arg0 m c) (arg1 m c) (arg2 m c) (arg3 m c) (arg4 m c) (arg5 m c) (arg6 m c) (arg7 m c) (arg8 m c) := by
  have hV : ∀ g e s, gateA (arrIn1 (V1 m ρ) c) (arrIn5 (V1 m ρ) c) g e s = val_main_v20 (F := Ideal) (arg1 m c) (arg7 m c) (ix4 0 s g e) :=
    fun g e s => gateV_eq (in1_at m ρ c) (in5_at m ρ c) g e s (Cert.ReferenceIdeal.Read.gapV h s g)
  have hO : ∀ g e s, gateA (arrIn0 (V1 m ρ) c) (arrIn6 (V1 m ρ) c) g e s = val_main_v33 (F := Ideal) (arg0 m c) (arg8 m c) (ix4 0 s g e) :=
    fun g e s => gateO_eq (in0_at m ρ c) (in6_at m ρ c) g e s (Cert.ReferenceIdeal.Read.gapO h s g)
  have hq : ∀ n s, midQ m ρ c (ix2 n s) = val_main_v3 (F := Ideal) (arg0 m c) (arg3 m c) (ix3 0 s n) :=
    fun n s => (congrFun (midQ_eq m ρ c) _).trans (query_eq (in0_at m ρ c) (in3_at m ρ c) n s)
  have hk : ∀ n s, midK m ρ c (ix2 n s) = val_main_v7 (F := Ideal) (arg1 m c) (arg4 m c) (ix3 0 s n) :=
    fun n s => (congrFun (midK_eq m ρ c) _).trans (key_eq (in1_at m ρ c) (in4_at m ρ c) n s)
  have hv : ∀ (g : Fin 16) (f : Fin 64) (s : Fin 2048) (X : Fin 1024), X.val = g.val * 64 + f.val →
      midV m ρ c (ix2 X s) = val_main_v36 (F := Ideal) (arg1 m c) (arg2 m c) (arg5 m c) (arg7 m c) (ix4 0 s g f) :=
    fun g f s X hX => (congrFun (midV_eq m ρ c) _).trans ((valueOut_at (V1 m ρ) c g f s X hX).trans
      (value_eq (in2_at m ρ c) hV (in7_at m ρ c) g f s))
  have hg : ∀ (g : Fin 16) (e : Fin 8) (s : Fin 2048) (X : Fin 128), X.val = g.val * 8 + e.val →
      midG m ρ c (ix2 X s) = val_main_v33 (F := Ideal) (arg0 m c) (arg8 m c) (ix4 0 s g e) :=
    fun g e s X hX => (congrFun (midG_eq m ρ c) _).trans ((gateOut_at (V1 m ρ) c g e s X hX).trans (hO g e s))
  funext i
  obtain ⟨s, k, rfl⟩ : ∃ s k, i = ix3 0 s k := ⟨i 1, i 2, funext fun a => by
    match a with
    | ⟨0, _⟩ => exact Subsingleton.elim (α := Fin 1) _ _
    | ⟨1, _⟩ => rfl
    | ⟨2, _⟩ => rfl⟩
  exact (v16_at m ρ c s k).trans ((congrFun (out_eq m ρ c) (ix2 s k)).trans
    (attn_eq hq hk hv hg (midW_at m ρ c) s k fun g => Cert.ReferenceIdeal.Read.finite_top h s g))

end Cert.KernelIdeal.Att

end
-- ==== Proof.Algebraic.lean ====
/- The kernel and the reference, run on the same arguments over the extended reals, end with equal results. -/
module

public import proofs.«01_k».proof.Defs
public import proofs.«01_k».proof.Proof.Gen.ReferenceIdeal.Run
public import proofs.«01_k».proof.Proof.Gen.ReferenceIdeal.Read
public import proofs.«01_k».proof.Proof.KernelIdeal.Value

@[expose] public section

noncomputable section

namespace Cert.Algebraic

open Idealize.ShloMosaic Idealize.SL.Sem

/-- Under the precondition the kernel's result and the reference's are equal. -/
theorem algebraic : Cert.algebraic_KernelIdeal_ReferenceIdeal_pre_clear_top (hKernelIdeal := Cert.KernelIdeal.Gen.facts)
    (hReferenceIdeal := Cert.ReferenceIdeal.Gen.facts) (hPre_clear_top := Cert.Pre_clear_top.facts) := by
  intro m g m' g' hpre hargs
  refine ⟨fun c => Cert.KernelIdeal.Att.W4 m g c (Proc.devRef .tc Cert.KernelIdeal.main_v16),
    Cert.KernelIdeal.Att.run_value m g, ?_⟩
  refine (θ_run Cert.ReferenceIdeal.defs _ _).mono (fun r h c => ⟨?_, (h c).2⟩) (Cert.ReferenceIdeal.Value.run (F := Ideal) m' g')
  have hk := Cert.KernelIdeal.Att.result_eq m g c (hpre c)
  have hr := (h c).1.trans (Cert.ReferenceIdeal.Read.val_main_v62_eq (F := Ideal) m' c)
  obtain ⟨h0, h1, h2, h3, h4, h5, h6, h7, h8⟩ := hargs c
  rw [h0, h1, h2, h3, h4, h5, h6, h7, h8] at hr
  exact hr.trans hk.symm

end Cert.Algebraic

end
-- ==== Proof.lean ====
/- The proof of the claim: the frames of the programs and the equality of their results. -/
module

public import proofs.«01_k».proof.Defs
public import proofs.«01_k».proof.Proof.Gen.ReferenceIdeal.Read
public import proofs.«01_k».proof.Proof.Frames
public import proofs.«01_k».proof.Proof.Precondition
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_clear_top.facts,
    Cert.Frames.kernel, Cert.Frames.kernelIdeal, fun m g _ => Cert.Frames.kernelIdeal m g trivial,
    Cert.Frames.referenceIdeal, fun m g _ => Cert.Frames.referenceIdeal m g trivial, trivial, Cert.Algebraic.algebraic⟩

end Cert.Proof

end
